-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x64x32x32 .f32) (main_arg1 : FVec F S1024x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S_ : Shape := ⟨0, ![]⟩
abbrev S1024 : Shape := ⟨1, ![1024]⟩
abbrev S1024x1 : Shape := ⟨2, ![1024, 1]⟩
abbrev S64x1024 : Shape := ⟨2, ![64, 1024]⟩
abbrev S16x1x1024 : Shape := ⟨3, ![16, 1, 1024]⟩
abbrev S1x1 : Shape := ⟨2, ![1, 1]⟩
abbrev S4x64x1024 : Shape := ⟨3, ![4, 64, 1024]⟩
abbrev S4x1x1024 : Shape := ⟨3, ![4, 1, 1024]⟩
abbrev S1x64x1024 : Shape := ⟨3, ![1, 64, 1024]⟩
abbrev S1x1024 : Shape := ⟨2, ![1, 1024]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩
abbrev S1x1024x1 : Shape := ⟨3, ![1, 1024, 1]⟩
abbrev S16384 : Shape := ⟨1, ![16384]⟩

abbrev nBuf : Space → Nat
  | .hbm => 20
  | .vmem => 13
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S1024x64, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S64x1024, .f32⟩
  | .hbm, ⟨8, _⟩ => ⟨S1024x64, .f32⟩
  | .hbm, ⟨9, _⟩ => ⟨S16x64x1024, .f32⟩
  | .hbm, ⟨10, _⟩ => ⟨S16x1x1024, .i32⟩
  | .hbm, ⟨11, _⟩ => ⟨S1024x1, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S16x64x32x32, .f32⟩
  | .hbm, ⟨16, _⟩ => ⟨S16384, .i32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S4x64x1024, .f32⟩
  | .local _ .vmem, ⟨1, _⟩ => ⟨S4x64x1024, .f32⟩
  | .local _ .vmem, ⟨2, _⟩ => ⟨S64x1024, .f32⟩
  | .local _ .vmem, ⟨3, _⟩ => ⟨S1024x64, .f32⟩
  | .local _ .vmem, ⟨4, _⟩ => ⟨S1024x1, .f32⟩
  | .local _ .vmem, ⟨5, _⟩ => ⟨S4x64x1024, .f32⟩
  | .local _ .vmem, ⟨6, _⟩ => ⟨S4x64x1024, .f32⟩
  | .local _ .vmem, ⟨7, _⟩ => ⟨S4x1x1024, .i32⟩
  | .local _ .vmem, ⟨8, _⟩ => ⟨S4x1x1024, .i32⟩
  | .local _ .vmem, ⟨9, _⟩ => ⟨S1024x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v174 : BitVec 1 := Scalar.cmpi .eq arg0 c0_i32
  let v175 : BitVec 32 := Scalar.extui v174
  let c0_i32_77 : BitVec 32 := 0#32
  let v176 : BitVec 1 := Scalar.cmpi .ne v175 c0_i32_77
  v176

def k0_cond2 (i : grid0.Coords) : BitVec 1 :=
  let arg0 : BitVec 32 := BitVec.ofNat 32 (i 0).val
  let c0_i32_78 : BitVec 32 := 0#32
  let v177 : BitVec 1 := Scalar.cmpi .sgt arg0 c0_i32_78
  let v178 : BitVec 32 := Scalar.extui v177
  let c0_i32_79 : BitVec 32 := 0#32
  let v179 : BitVec 1 := Scalar.cmpi .ne v178 c0_i32_79
  v179

def k0_cond3 (i : grid0.Coords) : BitVec 1 :=
  let arg0 : BitVec 32 := BitVec.ofNat 32 (i 0).val
  let c3_i32 : BitVec 32 := 3#32
  let v180 : BitVec 1 := Scalar.cmpi .eq arg0 c3_i32
  let v181 : BitVec 32 := Scalar.extui v180
  let c0_i32_80 : BitVec 32 := 0#32
  let v182 : BitVec 1 := Scalar.cmpi .ne v181 c0_i32_80
  v182

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S64x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S16384x64, .f32⟩
  | .hbm, ⟨33, _⟩ => ⟨S16x32x32x64, .f32⟩
  | .hbm, ⟨34, _⟩ => ⟨S16x64x32x32, .f32⟩
  | .hbm, ⟨35, _⟩ => ⟨S16x64x32x32, .f32⟩
  | .hbm, ⟨36, _⟩ => ⟨S16x64x32x32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x64x32x32, .f32⟩
  | .hbm, ⟨42, _⟩ => ⟨S16x64x32x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16x64x32x32, .f32⟩
  | .hbm, ⟨51, _⟩ => ⟨S16x64x32x32, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1024, .f32⟩
  | .hbm, ⟨68, _⟩ => ⟨S1024, .i1⟩
  | .hbm, ⟨69, _⟩ => ⟨S1024, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.RefRun.lean ====
module

public import proofs.«01_k».proof.Proof.Gen.ReferenceIdeal
public import Idealize.ShloMosaic.Lib.StableHlo.Run

/-! The reference program as a straight line of host operations, the arrays it computes named one by one, and its run. -/

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations in order; those of the two called functions stand where the calls are. -/
abbrev ops : List (HloOp τ sig (Elt F)) :=
  [ unary main_arg0 main_v0 ((transpose S16x32x32x64 [0, 2, 3, 1] · transposes_S16x64x32x32_S16x32x32x64_0_2_3_1)),
    reshape main_v0 main_v1 (rfl : (.f32 : EltTy) = .f32) shapeCasts_S16x32x32x64_S16384x64,
    binary main_v1 main_v1 main_v2 (mulf),
    nullary main_cst (constant S_ .f32 0x00000000#32),
    binary main_v2 main_cst main_v3 ((fun x v => Host.reduceAdd x v reducesTo_S16384x64_S16384_d1 h_S_)),
    unary main_v3 main_v4 (broadcastInDim S16384x1 ![0] bcast_S16384_S16384x1_0),
    nullary main_cst_0 (constant S_ .f32 0x40000000#32),
    unary main_cst_0 main_v5 (broadcastInDim S16384x64 ![] bcast_S_S16384x64),
    binary main_v5 main_v1 main_v6 (mulf),
    unary main_arg1 main_v7 ((transpose S64x1024 [1, 0] · transposes_S1024x64_S64x1024_1_0)),
    binary main_v6 main_v7 main_v8 ((fun l r => Host.dotGeneral dot_S16384x64_S64x1024_S16384x1024_1_0_0_1_n_n none l r)),
    unary main_v4 main_v9 (broadcastInDim S16384x1024 ![0, 1] bcast_S16384x1_S16384x1024_0_1),
    binary main_v9 main_v8 main_v10 (subf),
    binary main_arg1 main_arg1 main_v11 (mulf),
    nullary main_cst_1 (constant S_ .f32 0x00000000#32),
    binary main_v11 main_cst_1 main_v12 ((fun x v => Host.reduceAdd x v reducesTo_S1024x64_S1024_d1 h_S_)),
    unary main_v12 main_v13 (broadcastInDim S1x1024 ![1] bcast_S1024_S1x1024_1),
    unary main_v13 main_v14 (broadcastInDim S16384x1024 ![0, 1] bcast_S1x1024_S16384x1024_0_1),
    binary main_v10 main_v14 main_v15 (addf),
    TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0)
      (fun x y u v j => (Host.argReduce reducer_argmin_f32_i32 x y u v reducesTo_S16384x1024_S16384_d1 h_S_ j).1),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .i32⟩) main_v16)
      (fun x y u v j => (Host.argReduce reducer_argmin_f32_i32 x y u v reducesTo_S16384x1024_S16384_d1 h_S_ j).2),
    TRef.unary (TRef.of (T := ⟨S16384, .i32⟩) main_v16) (TRef.of (T := ⟨S16384x1, .i32⟩) main_call1_v0) (broadcastInDim S16384x1 ![0] bcast_S16384_S16384x1_0),
    TRef.nullary (TRef.of (T := ⟨S1x1024, .i32⟩) main_call1_v1) (iotaInDim S1x1024 32 1),
    TRef.unary (TRef.of (T := ⟨S16384x1, .i32⟩) main_call1_v0) (TRef.of (T := ⟨S16384x1024, .i32⟩) main_call1_v2) (broadcastInDim S16384x1024 ![0, 1] bcast_S16384x1_S16384x1024_0_1),
    TRef.unary (TRef.of (T := ⟨S1x1024, .i32⟩) main_call1_v1) (TRef.of (T := ⟨S16384x1024, .i32⟩) main_call1_v3) (broadcastInDim S16384x1024 ![0, 1] bcast_S1x1024_S16384x1024_0_1),
    TRef.binary (TRef.of (T := ⟨S16384x1024, .i32⟩) main_call1_v2) (TRef.of (T := ⟨S16384x1024, .i32⟩) main_call1_v3) (TRef.of (T := ⟨S16384x1024, .i1⟩) main_call1_v4) (cmpi .eq),
    TRef.unary (TRef.of (T := ⟨S16384x1024, .i1⟩) main_call1_v4) (TRef.of (T := ⟨S16384x1024, .f32⟩) main_v17) (uitofp .f32),
    binary main_v17 main_arg1 main_v18 ((fun l r => Host.dotGeneral dot_S16384x1024_S1024x64_S16384x64_1_0_0_1_n_n none l r)),
    reshape main_v18 main_v19 (rfl : (.f32 : EltTy) = .f32) shapeCasts_S16384x64_S16x32x32x64,
    unary main_v19 main_v20 ((transpose S16x64x32x32 [0, 3, 1, 2] · transposes_S16x32x32x64_S16x64x32x32_0_3_1_2)),
    binary main_v20 main_arg0 main_v21 (subf),
    binary main_v21 main_v21 main_v22 (mulf),
    nullary main_cst_2 (constant S_ .f32 0x00000000#32),
    binary main_v22 main_cst_2 main_v23 ((fun x v => Host.reduceAdd x v reducesTo_S16x64x32x32_S_d0_1_2_3 h_S_)),
    nullary main_cst_3 (constant S_ .f32 0x49800000#32),
    binary main_v23 main_cst_3 main_v24 (Host.divf),
    binary main_v20 main_arg0 main_v25 (subf),
    binary main_v25 main_v25 main_v26 (mulf),
    nullary main_cst_4 (constant S_ .f32 0x00000000#32),
    binary main_v26 main_cst_4 main_v27 ((fun x v => Host.reduceAdd x v reducesTo_S16x64x32x32_S_d0_1_2_3 h_S_)),
    nullary main_cst_5 (constant S_ .f32 0x49800000#32),
    binary main_v27 main_cst_5 main_v28 (Host.divf),
    nullary main_cst_6 (constant S_ .f32 0x3E800000#32),
    binary main_cst_6 main_v28 main_v29 (mulf),
    binary main_v24 main_v29 main_v30 (addf),
    binary main_v20 main_arg0 main_v31 (subf),
    binary main_arg0 main_v31 main_v32 (addf),
    nullary main_cst_7 (constant S_ .f32 0x00000000#32),
    binary main_v17 main_cst_7 main_v33 ((fun x v => Host.reduceAdd x v reducesTo_S16384x1024_S1024_d0 h_S_)),
    nullary main_cst_8 (constant S_ .f32 0x46800000#32),
    unary main_cst_8 main_v34 (broadcastInDim S1024 ![] bcast_S_S1024),
    binary main_v33 main_v34 main_v35 (Host.divf),
    nullary main_cst_9 (constant S_ .f32 0x2EDBE6FF#32),
    unary main_cst_9 main_v36 (broadcastInDim S1024 ![] bcast_S_S1024),
    binary main_v35 main_v36 main_v37 (addf),
    unary main_v37 main_v38 (Host.log),
    binary main_v35 main_v38 main_v39 (mulf),
    nullary main_cst_10 (constant S_ .f32 0x00000000#32),
    binary main_v39 main_cst_10 main_v40 ((fun x v => Host.reduceAdd x v reducesTo_S1024_S_d0 h_S_)),
    unary main_v40 main_v41 (Host.negf),
    unary main_v41 main_v42 (Host.exp),
    nullary main_cst_11 (constant S_ .f32 0x00000000#32),
    unary main_cst_11 main_v43 (broadcastInDim S1024 ![] bcast_S_S1024),
    binary main_v35 main_v43 main_v44 (cmpf .ogt),
    unary main_v44 main_v45 (uitofp .f32),
    nullary main_cst_12 (constant S_ .f32 0x00000000#32),
    binary main_v45 main_cst_12 main_v46 ((fun x v => Host.reduceAdd x v reducesTo_S1024_S_d0 h_S_)),
    nullary main_cst_13 (constant S_ .f32 0x44800000#32),
    binary main_v46 main_cst_13 main_v47 (Host.divf) ]

/-! ## The arrays -/

/-- The images with the channels last, one row per pixel. -/
def flat (z : FVec F S16x64x32x32 .f32) : FVec F S16384x64 .f32 :=
  shapeCast S16384x64 (transpose S16x32x32x64 [0, 2, 3, 1] z transposes_S16x64x32x32_S16x32x32x64_0_2_3_1) shapeCasts_S16x32x32x64_S16384x64

/-- The distance of every pixel to every code. -/
def dist (z : FVec F S16x64x32x32 .f32) (w : FVec F S1024x64 .f32) : FVec F S16384x1024 .f32 :=
  addf (subf (broadcastInDim S16384x1024 ![0, 1] bcast_S16384x1_S16384x1024_0_1 (broadcastInDim S16384x1 ![0] bcast_S16384_S16384x1_0
        (Host.reduceAdd (mulf (flat z) (flat z)) (constant S_ .f32 0x00000000#32) reducesTo_S16384x64_S16384_d1 h_S_)))
      (Host.dotGeneral dot_S16384x64_S64x1024_S16384x1024_1_0_0_1_n_n none
        (mulf (broadcastInDim S16384x64 ![] bcast_S_S16384x64 (constant S_ .f32 0x40000000#32)) (flat z))
        (transpose S64x1024 [1, 0] w transposes_S1024x64_S64x1024_1_0)))
    (broadcastInDim S16384x1024 ![0, 1] bcast_S1x1024_S16384x1024_0_1 (broadcastInDim S1x1024 ![1] bcast_S1024_S1x1024_1
      (Host.reduceAdd (mulf w w) (constant S_ .f32 0x00000000#32) reducesTo_S1024x64_S1024_d1 h_S_)))

/-- The least distance of every row and the first code at it. -/
def pairs (d : FVec F S16384x1024 .f32) : S16384.Idx → F .f32 × BitVec 32 :=
  Host.argReduce reducer_argmin_f32_i32 d (iotaInDim S16384x1024 32 1) (constant S_ .f32 0x7F800000#32) (constantI S_ 32 0#32)
    reducesTo_S16384x1024_S16384_d1 h_S_

/-- The places of pairs of a value and a place. -/
def places (p : S16384.Idx → F .f32 × BitVec 32) : IVec S16384 32 := fun j => (p j).2

/-- The first nearest code of every row of distances. -/
def first (d : FVec F S16384x1024 .f32) : IVec S16384 32 := places (pairs d)

/-- The one-hot rows of a vector of codes. -/
def hot (n : IVec S16384 32) : FVec F S16384x1024 .f32 :=
  uitofp .f32 (cmpi .eq (broadcastInDim S16384x1024 ![0, 1] bcast_S16384x1_S16384x1024_0_1 (broadcastInDim S16384x1 ![0] bcast_S16384_S16384x1_0 n))
    (broadcastInDim S16384x1024 ![0, 1] bcast_S1x1024_S16384x1024_0_1 (iotaInDim S1x1024 32 1)))

/-- The codes themselves, in the layout of the images. -/
def quant (n : IVec S16384 32) (w : FVec F S1024x64 .f32) : FVec F S16x64x32x32 .f32 :=
  transpose S16x64x32x32 [0, 3, 1, 2] (shapeCast S16x32x32x64
    (Host.dotGeneral dot_S16384x1024_S1024x64_S16384x64_1_0_0_1_n_n none (hot n) w) shapeCasts_S16384x64_S16x32x32x64)
    transposes_S16x32x32x64_S16x64x32x32_0_3_1_2

/-- The mean square of the difference of two images. -/
def meanSq (q z : FVec F S16x64x32x32 .f32) : FVec F S_ .f32 :=
  Host.divf (Host.reduceAdd (mulf (subf q z) (subf q z)) (constant S_ .f32 0x00000000#32) reducesTo_S16x64x32x32_S_d0_1_2_3 h_S_)
    (constant S_ .f32 0x49800000#32)

/-- The loss. -/
def lossOf (q z : FVec F S16x64x32x32 .f32) : FVec F S_ .f32 :=
  addf (meanSq q z) (mulf (constant S_ .f32 0x3E800000#32) (meanSq q z))

/-- The share of the pixels that each code takes. -/
def share (n : IVec S16384 32) : FVec F S1024 .f32 :=
  Host.divf (Host.reduceAdd (hot n) (constant S_ .f32 0x00000000#32) reducesTo_S16384x1024_S1024_d0 h_S_)
    (broadcastInDim S1024 ![] bcast_S_S1024 (constant S_ .f32 0x46800000#32))

/-- The perplexity of the shares. -/
def perpOf (p : FVec F S1024 .f32) : FVec F S_ .f32 :=
  Host.exp (Host.negf (Host.reduceAdd (mulf p (Host.log (addf p (broadcastInDim S1024 ![] bcast_S_S1024 (constant S_ .f32 0x2EDBE6FF#32)))))
    (constant S_ .f32 0x00000000#32) reducesTo_S1024_S_d0 h_S_))

/-- The part of the codes in use. -/
def utilOf (p : FVec F S1024 .f32) : FVec F S_ .f32 :=
  Host.divf (Host.reduceAdd (uitofp .f32 (cmpf .ogt p (broadcastInDim S1024 ![] bcast_S_S1024 (constant S_ .f32 0x00000000#32))))
    (constant S_ .f32 0x00000000#32) reducesTo_S1024_S_d0 h_S_) (constant S_ .f32 0x44800000#32)

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., nullary_bufs_sub .., binary_bufs_sub .., nullary_bufs_sub .., binary_bufs_sub ..⟩

/-- The two arguments and the codes chosen, as arrays. -/
abbrev argZ (m : (ℓ : Loc nD τ sig) → Buf (Elt F) ℓ) (c : Dev nD) : FVec F S16x64x32x32 .f32 := m ((c.tc : Thread nD τ).loc main_arg0)
abbrev argW (m : (ℓ : Loc nD τ sig) → Buf (Elt F) ℓ) (c : Dev nD) : FVec F S1024x64 .f32 := m ((c.tc : Thread nD τ).loc main_arg1)
abbrev code (m : (ℓ : Loc nD τ sig) → Buf (Elt F) ℓ) (c : Dev nD) : IVec S16384 32 := first (dist (argZ m c) (argW m c))

set_option maxRecDepth 8192 in
set_option maxHeartbeats 28000000 in
/-- From any memory with zero counters every fair run ends with the five results at the arrays above and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = addf (argZ m c) (subf (quant (code m c) (argW m c)) (argZ m c))
      ∧ r.2.mem ((c.tc : Thread nD τ).loc main_v30) = lossOf (quant (code m c) (argW m c)) (argZ m c)
      ∧ r.2.mem ((c.tc : Thread nD τ).loc main_v42) = perpOf (share (code m c))
      ∧ r.2.mem ((c.tc : Thread nD τ).loc main_v47) = utilOf (share (code m c))
      ∧ r.2.mem ((c.tc : Thread nD τ).loc main_v16) = code m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      (h c main_v32).trans (by simp only [ops, TRef.quaternary, TRef.binary, TRef.nullary, TRef.unary, TRef.toBuf, TRef.ofBuf, cast_eq]; after_results_simp <;> rfl),
      (h c main_v30).trans (by simp only [ops, TRef.quaternary, TRef.binary, TRef.nullary, TRef.unary, TRef.toBuf, TRef.ofBuf, cast_eq]; after_results_simp <;> rfl),
      (h c main_v42).trans (by simp only [ops, TRef.quaternary, TRef.binary, TRef.nullary, TRef.unary, TRef.toBuf, TRef.ofBuf, cast_eq]; after_results_simp <;> rfl),
      (h c main_v47).trans (by simp only [ops, TRef.quaternary, TRef.binary, TRef.nullary, TRef.unary, TRef.toBuf, TRef.ofBuf, cast_eq]; after_results_simp <;> rfl),
      (h c main_v16).trans (by simp only [ops, TRef.quaternary, TRef.binary, TRef.nullary, TRef.unary, TRef.toBuf, TRef.ofBuf, cast_eq]; after_results_simp <;> rfl),
      (h c main_arg0).trans (by simp only [ops, TRef.quaternary, TRef.binary, TRef.nullary, TRef.unary, TRef.toBuf, TRef.ofBuf, cast_eq]; after_results_simp <;> rfl),
      (h c main_arg1).trans (by simp only [ops, TRef.quaternary, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Hand

end
-- ==== Proof.Nearest.lean ====
module

public import Idealize.ShloMosaic.Lib.Pointwise

/-! The first place at which a finite family of extended reals is least: what it is, and the two ways the programs find it. -/

@[expose] public section

noncomputable section

namespace Cert.Vq

open Idealize.ShloMosaic

/-- `k` is the first place where `f` is least. -/
def IsFirst {n : Nat} (f : Fin n → EReal) (k : Fin n) : Prop := (∀ i, f k ≤ f i) ∧ ∀ i, i < k → f k < f i

theorem exists_isFirst (f : Fin 1024 → EReal) : ∃ k, IsFirst f k := by
  classical
  obtain ⟨a, -, ha⟩ := Finset.exists_min_image Finset.univ f ⟨0, Finset.mem_univ _⟩
  have hne : (Finset.univ.filter fun i => f i = f a).Nonempty := ⟨a, by simp⟩
  refine ⟨(Finset.univ.filter fun i => f i = f a).min' hne, ?_, ?_⟩
  · intro i
    have h := (Finset.mem_filter.mp (Finset.min'_mem _ hne)).2
    rw [h]; exact ha i (Finset.mem_univ _)
  · intro i hi
    have h := (Finset.mem_filter.mp (Finset.min'_mem _ hne)).2
    rw [h]
    refine lt_of_le_of_ne (ha i (Finset.mem_univ _)) fun he => ?_
    exact absurd (Finset.min'_le _ i (by simp [he])) (not_le.mpr hi)

/-- The first place where `f` is least. -/
def firstMin (f : Fin 1024 → EReal) : Fin 1024 := Classical.choose (exists_isFirst f)

theorem firstMin_spec (f : Fin 1024 → EReal) : IsFirst f (firstMin f) := Classical.choose_spec (exists_isFirst f)

theorem IsFirst.unique {n : Nat} {f : Fin n → EReal} {a b : Fin n} (ha : IsFirst f a) (hb : IsFirst f b) : a = b := by
  rcases lt_trichotomy a b with h | h | h
  · exact absurd (ha.1 b) (not_le.mpr (hb.2 a h))
  · exact h
  · exact absurd (hb.1 a) (not_le.mpr (ha.2 b h))

theorem firstMin_eq {f : Fin 1024 → EReal} {k : Fin 1024} (h : IsFirst f k) : firstMin f = k := (firstMin_spec f).unique h

/-- A running minimum from the top is the value at the first least place. -/
theorem fold_min (f : Fin 1024 → EReal) : Finset.univ.fold min (⊤ : EReal) f = f (firstMin f) := by
  apply le_antisymm
  · exact (Finset.fold_min_le _).mpr (Or.inr ⟨firstMin f, Finset.mem_univ _, le_rfl⟩)
  · exact (Finset.le_fold_min _).mpr ⟨le_top, fun i _ => (firstMin_spec f).1 i⟩

/-- The places themselves where `f` is least, a large number elsewhere. -/
def marks (f : Fin 1024 → EReal) (k : Fin 1024) : EReal := if f k = f (firstMin f) then ((k.val : ℝ) : EReal) else ((1000000000 : ℝ) : EReal)

theorem marks_first (f : Fin 1024 → EReal) : marks f (firstMin f) = (((firstMin f).val : ℝ) : EReal) := by
  unfold marks; rw [if_pos rfl]

theorem first_lt_marks (f : Fin 1024 → EReal) (k : Fin 1024) (hk : k ≠ firstMin f) : (((firstMin f).val : ℝ) : EReal) < marks f k := by
  unfold marks
  split
  · rename_i h
    rw [EReal.coe_lt_coe_iff, Nat.cast_lt]
    rcases lt_trichotomy k (firstMin f) with h' | h' | h'
    · exact absurd h (ne_of_gt ((firstMin_spec f).2 k h'))
    · exact absurd h' hk
    · exact h'
  · rw [EReal.coe_lt_coe_iff]
    have h := (firstMin f).isLt
    have : ((firstMin f).val : ℝ) < 1024 := by exact_mod_cast h
    linarith

/-- The first least place of the marks is that of `f`. -/
theorem firstMin_marks (f : Fin 1024 → EReal) : firstMin (marks f) = firstMin f := by
  refine firstMin_eq ⟨fun i => ?_, fun i hi => ?_⟩
  · rw [marks_first]
    by_cases h : i = firstMin f
    · rw [h, marks_first]
    · exact (first_lt_marks f i h).le
  · rw [marks_first]; exact first_lt_marks f i (ne_of_lt hi)

/-- The least mark is the first least place, as a number. -/
theorem fold_min_marks (f : Fin 1024 → EReal) : Finset.univ.fold min (⊤ : EReal) (marks f) = (((firstMin f).val : ℝ) : EReal) := by
  rw [fold_min, firstMin_marks, marks_first]

theorem marks_eq_iff (f : Fin 1024 → EReal) (k : Fin 1024) : marks f k = (((firstMin f).val : ℝ) : EReal) ↔ k = firstMin f := by
  constructor
  · intro h
    by_contra hk
    exact absurd h (ne_of_gt (first_lt_marks f k hk))
  · rintro rfl; exact marks_first _

/-! ## A left fold that keeps the smaller of two pairs -/

/-- A pair is before another: a smaller value, or the same value and a place not after it. -/
def Before (a b : EReal × BitVec 32) : Prop := a.1 < b.1 ∨ (a.1 = b.1 ∧ a.2.toInt ≤ b.2.toInt)

theorem Before.trans {a b c : EReal × BitVec 32} (h : Before a b) (h' : Before b c) : Before a c := by
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

theorem foldl_before (f : EReal × BitVec 32 → EReal × BitVec 32 → EReal × BitVec 32)
    (hf : ∀ a b, (f a b = a ∨ f a b = b) ∧ Before (f a b) a ∧ Before (f a b) b) (l : List (EReal × BitVec 32)) :
    ∀ a, (l.foldl f a = a ∨ l.foldl f a ∈ l) ∧ Before (l.foldl f a) a ∧ ∀ q ∈ l, Before (l.foldl f a) q := by
  induction l with
  | nil => intro a; exact ⟨Or.inl rfl, Or.inr ⟨rfl, le_rfl⟩, by simp⟩
  | cons b l ih =>
    intro a
    obtain ⟨h1, h2, h3⟩ := ih (f a b)
    obtain ⟨g1, g2, g3⟩ := hf a b
    refine ⟨?_, h2.trans g2, ?_⟩
    · rw [List.foldl_cons]
      rcases h1 with h1 | h1
      · rw [h1]
        rcases g1 with g1 | g1
        · exact Or.inl g1
        · exact Or.inr (by rw [g1]; exact List.mem_cons_self)
      · exact Or.inr (List.mem_cons_of_mem _ h1)
    · intro q hq
      rcases List.mem_cons.mp hq with rfl | hq
      · exact h2.trans g3
      · exact h3 q hq

theorem toInt_ofNat_of_lt (k : Fin 1024) : (BitVec.ofNat 32 k.val).toInt = (k.val : ℤ) := by
  have h := k.isLt
  rw [BitVec.toInt_eq_toNat_of_lt (by simp; omega)]
  simp; omega

/-- Over the pairs of a row, from the pair of the top and place nought, the fold ends at the first least place. -/
theorem foldl_row (f : EReal × BitVec 32 → EReal × BitVec 32 → EReal × BitVec 32)
    (hf : ∀ a b, (f a b = a ∨ f a b = b) ∧ Before (f a b) a ∧ Before (f a b) b) (x : Fin 1024 → EReal)
    (l : List (EReal × BitVec 32)) (hl : ∀ q, q ∈ l ↔ ∃ k : Fin 1024, q = (x k, BitVec.ofNat 32 k.val)) :
    (l.foldl f (⊤, 0#32)).2 = BitVec.ofNat 32 (firstMin x).val := by
  obtain ⟨h1, h2, h3⟩ := foldl_before f hf l (⊤, 0#32)
  generalize l.foldl f (⊤, 0#32) = p at h1 h2 h3
  have hx : ∀ k : Fin 1024, Before p (x k, BitVec.ofNat 32 k.val) := fun k => h3 _ ((hl _).mpr ⟨k, rfl⟩)
  have hp : ∃ k : Fin 1024, p = (x k, BitVec.ofNat 32 k.val) := by
    rcases h1 with h1 | h1
    · refine ⟨0, ?_⟩
      have h0 := hx 0
      rw [h1] at h0 ⊢
      rcases h0 with h0 | ⟨h0, -⟩
      · exact absurd h0 not_top_lt
      · exact Prod.ext h0 rfl
    · exact (hl p).mp h1
  obtain ⟨k, rfl⟩ := hp
  have hk : IsFirst x k := by
    refine ⟨fun i => ?_, fun i hi => ?_⟩
    · rcases hx i with h | ⟨h, -⟩
      · exact le_of_lt h
      · exact le_of_eq h
    · rcases hx i with h | ⟨-, h⟩
      · exact h
      · rw [toInt_ofNat_of_lt, toInt_ofNat_of_lt] at h
        have : i.val < k.val := hi
        omega
  rw [firstMin_eq hk]

end Cert.Vq

end
-- ==== Proof.Consts.lean ====
module

public import Idealize.ShloMosaic.Lib.Pointwise

/-! The numbers the two programs write down, as extended reals. -/

@[expose] public section

noncomputable section

namespace Cert.Vq

open Idealize.ShloMosaic

theorem top_bits : Ideal.ofBits .f32 0x7F800000#32 = (⊤ : EReal) := by simp [Ideal.ofBits, Ideal.ieee]

theorem big_bits : Ideal.ofBits .f32 0x4E6E6B28#32 = ((1000000000 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem elems_bits : Ideal.ofBits .f32 0x49800000#32 = ((1048576 : ℝ) : EReal) := by
  simp [Ideal.ofBits, Ideal.ieee, -EReal.coe_mul]; norm_num

theorem pixels_bits : Ideal.ofBits .f32 0x46800000#32 = ((16384 : ℝ) : EReal) := by
  simp [Ideal.ofBits, Ideal.ieee, -EReal.coe_mul]; norm_num

theorem codes_bits : Ideal.ofBits .f32 0x44800000#32 = ((1024 : ℝ) : EReal) := by
  simp [Ideal.ofBits, Ideal.ieee, -EReal.coe_mul]; norm_num

theorem per_elem_bits : Ideal.ofBits .f32 0x35800000#32 = ((1 / 1048576 : ℝ) : EReal) := by
  simp [Ideal.ofBits, Ideal.ieee, -EReal.coe_mul]; norm_num

theorem per_pixel_bits : Ideal.ofBits .f32 0x38800000#32 = ((1 / 16384 : ℝ) : EReal) := by
  simp [Ideal.ofBits, Ideal.ieee, -EReal.coe_mul]; norm_num

theorem per_code_bits : Ideal.ofBits .f32 0x3A800000#32 = ((1 / 1024 : ℝ) : EReal) := by
  simp [Ideal.ofBits, Ideal.ieee, -EReal.coe_mul]; norm_num

/-- A division by a power of two is the product with its written inverse. -/
theorem div_elems (x : EReal) : Ideal.div x (Ideal.ofBits .f32 0x49800000#32) = x * Ideal.ofBits .f32 0x35800000#32 := by
  rw [elems_bits, per_elem_bits]; exact Ideal.div_coe (by norm_num) x

theorem div_pixels (x : EReal) : Ideal.div x (Ideal.ofBits .f32 0x46800000#32) = x * Ideal.ofBits .f32 0x38800000#32 := by
  rw [pixels_bits, per_pixel_bits]; exact Ideal.div_coe (by norm_num) x

theorem div_codes (x : EReal) : Ideal.div x (Ideal.ofBits .f32 0x44800000#32) = x * Ideal.ofBits .f32 0x3A800000#32 := by
  rw [codes_bits, per_code_bits]; exact Ideal.div_coe (by norm_num) x

/-- A small natural number turned to a word by truncation is that word. -/
theorem word_of_nat (k : Fin 1024) : Ideal.fptosi 32 (((k.val : ℝ)) : EReal) = BitVec.ofNat 32 k.val := by
  have hk := k.isLt
  have h : Ideal.toIntClamped (-(2 ^ (32 - 1) : Nat)) ((2 ^ (32 - 1) : Nat) - 1) (((k.val : ℝ)) : EReal) = (k.val : ℤ) := by
    rw [Ideal.toIntClamped_coe, if_pos (Nat.cast_nonneg _), Int.floor_natCast]
    omega
  rw [Ideal.fptosi, h, BitVec.ofInt_natCast]

end Cert.Vq

end
-- ==== Proof.Meaning.lean ====
module

public import proofs.«01_k».proof.Proof.Nearest
public import proofs.«01_k».proof.Proof.Consts

/-! What both programs compute, over images `Z b d p` (image, channel, pixel) and codes `W k d`. -/

@[expose] public section

noncomputable section

namespace Cert.Vq

open Idealize.ShloMosaic

/-- Sixteen images of 64 channels and 1024 pixels; 1024 codes of 64 channels. -/
abbrev Images := Fin 16 → Fin 64 → Fin 1024 → EReal
abbrev Codes := Fin 1024 → Fin 64 → EReal

/-- The distance of pixel `p` of image `b` to every code, written out as both programs sum it. -/
def away (Z : Images) (W : Codes) (b : Fin 16) (p k : Fin 1024) : EReal :=
  ((∑ d : Fin 64, Z b d p * Z b d p) - ∑ d : Fin 64, (W k d + W k d) * Z b d p) + ∑ d : Fin 64, W k d * W k d

/-- The code chosen for a pixel. -/
def near (Z : Images) (W : Codes) (b : Fin 16) (p : Fin 1024) : Fin 1024 := firstMin (away Z W b p)

/-- A pixel moved to its code. -/
def placed (Z : Images) (W : Codes) (b : Fin 16) (d : Fin 64) (p : Fin 1024) : EReal := Z b d p + (W (near Z W b p) d - Z b d p)

/-- How many pixels chose a code. -/
def tally (Z : Images) (W : Codes) (k : Fin 1024) : EReal := ∑ b : Fin 16, ∑ p : Fin 1024, if k = near Z W b p then (1 : EReal) else 0

/-- The least distances, summed. -/
def total (Z : Images) (W : Codes) : EReal := ∑ b : Fin 16, ∑ p : Fin 1024, away Z W b p (near Z W b p)

/-- The loss from the sum of squares. -/
def lossFrom (s : EReal) : EReal :=
  s * Ideal.ofBits .f32 0x35800000#32 + Ideal.ofBits .f32 0x3E800000#32 * (s * Ideal.ofBits .f32 0x35800000#32)

/-- The share of the pixels that chose a code. -/
def part (Z : Images) (W : Codes) (k : Fin 1024) : EReal := tally Z W k * Ideal.ofBits .f32 0x38800000#32

/-- The perplexity and the use of the codes, from the shares. -/
def perpFrom (s : Fin 1024 → EReal) : EReal := Ideal.exp (0 - ∑ k : Fin 1024, s k * Ideal.log (s k + Ideal.ofBits .f32 0x2EDBE6FF#32))
def utilFrom (s : Fin 1024 → EReal) : EReal := (∑ k : Fin 1024, if 0 < s k then (1 : EReal) else 0) * Ideal.ofBits .f32 0x3A800000#32

end Cert.Vq

end
-- ==== Proof.RefDist.lean ====
module

public import proofs.«01_k».proof.Proof.RefRun
public import proofs.«01_k».proof.Proof.Meaning
public import Idealize.ShloMosaic.Lib.Pointwise
public import Idealize.ShloMosaic.Lib.Pipeline.ValueKit

/-! The reference's arrays read at an index. -/

@[expose] public section

set_option maxRecDepth 16384

noncomputable section

namespace Cert.ReferenceIdeal.Hand

open Cert.ReferenceIdeal Cert.ReferenceIdeal.Gen Cert.Vq Idealize.ShloMosaic

/-- Pixel `p` of image `b` among all the pixels. -/
def row (b : Fin 16) (p : Fin 1024) : Fin 16384 := ⟨1024 * b.val + p.val, by omega⟩

/-- A pixel's line and column. -/
def line (p : Fin 1024) : Fin 32 := ⟨p.val / 32, by omega⟩
def column (p : Fin 1024) : Fin 32 := ⟨p.val % 32, by omega⟩

def imagesOf (z : FVec Ideal S16x64x32x32 .f32) : Images := fun b d p => z (ix4 b d (line p) (column p))
def codesOf (w : FVec Ideal S1024x64 .f32) : Codes := fun k d => w (ix2 k d)

variable (z : FVec Ideal S16x64x32x32 .f32) (w : FVec Ideal S1024x64 .f32)

theorem flat_apply (b : Fin 16) (p : Fin 1024) (d : Fin 64) : flat z (ix2 (row b p) d) = imagesOf z b d p := by
  unfold imagesOf row line column
  pointwise [flat]
  blk_ext

/-- The three terms of a distance. -/
def selfs : FVec Ideal S16384 .f32 := Host.reduceAdd (mulf (flat z) (flat z)) (constant S_ .f32 0x00000000#32) reducesTo_S16384x64_S16384_d1 h_S_
def cross : FVec Ideal S16384x1024 .f32 := Host.dotGeneral dot_S16384x64_S64x1024_S16384x1024_1_0_0_1_n_n none
  (mulf (broadcastInDim S16384x64 ![] bcast_S_S16384x64 (constant S_ .f32 0x40000000#32)) (flat z))
  (transpose S64x1024 [1, 0] w transposes_S1024x64_S64x1024_1_0)
def lengths : FVec Ideal S1024 .f32 := Host.reduceAdd (mulf w w) (constant S_ .f32 0x00000000#32) reducesTo_S1024x64_S1024_d1 h_S_

theorem selfs_apply (r : Fin 16384) : selfs z (ix1 r) = ∑ d : Fin 64, flat z (ix2 r d) * flat z (ix2 r d) := by
  pointwise [selfs]

theorem lengths_apply (k : Fin 1024) : lengths w (ix1 k) = ∑ d : Fin 64, w (ix2 k d) * w (ix2 k d) := by
  pointwise [lengths]

theorem cross_apply (r : Fin 16384) (k : Fin 1024) :
    cross z w (ix2 r k) = ∑ d : Fin 64, Ideal.ofBits .f32 0x40000000#32 * flat z (ix2 r d) * w (ix2 k d) := by
  pointwise [cross]

theorem gather_apply (a : FVec Ideal S16384 .f32) (x : FVec Ideal S16384x1024 .f32) (l : FVec Ideal S1024 .f32) (r : Fin 16384) (k : Fin 1024) :
    addf (subf (broadcastInDim S16384x1024 ![0, 1] bcast_S16384x1_S16384x1024_0_1 (broadcastInDim S16384x1 ![0] bcast_S16384_S16384x1_0 a)) x)
      (broadcastInDim S16384x1024 ![0, 1] bcast_S1x1024_S16384x1024_0_1 (broadcastInDim S1x1024 ![1] bcast_S1024_S1x1024_1 l)) (ix2 r k)
      = (a (ix1 r) - x (ix2 r k)) + l (ix1 k) := by
  pointwise

theorem twice (x y : EReal) : Ideal.ofBits .f32 0x40000000#32 * x * y = (y + y) * x := by
  rw [two_bits, show ((2 : ℝ) : EReal) = 1 + 1 from by rw [← EReal.coe_one, ← EReal.coe_add]; norm_num, mul_comm, ← mul_assoc, mul_comm y, EReal.right_distrib_of_nonneg zero_le_one zero_le_one, one_mul]

theorem dist_apply (b : Fin 16) (p k : Fin 1024) : dist z w (ix2 (row b p) k) = away (imagesOf z) (codesOf w) b p k := by
  refine (gather_apply (selfs z) (cross z w) (lengths w) (row b p) k).trans ?_
  unfold away codesOf
  rw [selfs_apply, cross_apply, lengths_apply]
  simp only [flat_apply, twice]

end Cert.ReferenceIdeal.Hand

end
-- ==== Proof.RefFirst.lean ====
module

public import proofs.«01_k».proof.Proof.RefDist

/-! The reference's search for the first nearest code. -/

@[expose] public section

set_option maxRecDepth 16384

noncomputable section

namespace Cert.ReferenceIdeal.Hand

open Cert.ReferenceIdeal Cert.ReferenceIdeal.Gen Cert.Vq Idealize.ShloMosaic

theorem ori_one : ∀ a b : BitVec 1, IntOp.ori a b = 1#1 ↔ a = 1#1 ∨ b = 1#1 := by decide
theorem andi_one : ∀ a b : BitVec 1, IntOp.andi a b = 1#1 ↔ a = 1#1 ∧ b = 1#1 := by decide

theorem chosen (a b : EReal × BitVec 32) : reducer_argmin_f32_i32 (F := Ideal) a b =
    (if a.1 < b.1 then a.1 else b.1, if a.1 < b.1 ∨ (a.1 = b.1 ∧ a.2.toInt < b.2.toInt) then a.2 else b.2) := by
  unfold reducer_argmin_f32_i32
  dsimp only
  simp only [Scalar.select, ori_one, andi_one]
  have t (p : Bool) : BitVec.ofBool p = 1#1 ↔ p = true := by cases p <;> decide
  simp [Ideal.cmpf_def, Ideal.cmp, IntOp.cmpi, BitVec.slt, ori_one, andi_one, t]

/-- The choice between two pairs of a distance and its place. -/
theorem pick (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  rw [chosen]
  obtain ⟨x, i⟩ := a
  obtain ⟨y, j⟩ := b
  unfold Before
  dsimp only
  rcases lt_trichotomy x y with h | h | h
  · simp [h]
  · subst h
    by_cases hij : i.toInt < j.toInt
    · simp [hij, hij.le]
    · simp [hij, not_lt.mp hij]
  · simp [h, h.not_gt, h.ne']

theorem drop_row (r : Fin 16384) (k : Fin 1024) : reducesTo_S16384x1024_S16384_d1.drop (ix2 r k) = ix1 r := by
  funext a
  fin_cases a
  rfl

/-- The pairs of one row. -/
theorem fiber (d : FVec Ideal S16384x1024 .f32) (r : Fin 16384) (q : EReal × BitVec 32) :
    q ∈ Host.argReduceFiber d (iotaInDim S16384x1024 32 1) reducesTo_S16384x1024_S16384_d1 (ix1 r)
      ↔ ∃ k : Fin 1024, q = (d (ix2 r k), BitVec.ofNat 32 k.val) := by
  rw [Host.argReduceFiber, List.mem_map]
  constructor
  · rintro ⟨n, hn, rfl⟩
    have hn := of_decide_eq_true (List.mem_filter.mp hn).2
    generalize S16384x1024.rowMajor.symm n = i at hn ⊢
    obtain ⟨r', k, rfl⟩ : ∃ (r' : Fin 16384) (k : Fin 1024), i = ix2 r' k := ⟨i 0, i 1, by blk_ext⟩
    rw [drop_row] at hn
    obtain rfl : r' = r := congrFun hn 0
    exact ⟨k, rfl⟩
  · rintro ⟨k, rfl⟩
    refine ⟨S16384x1024.rowMajor (ix2 r k), List.mem_filter.mpr ⟨List.mem_finRange _, decide_eq_true ?_⟩, ?_⟩
    · rw [Equiv.symm_apply_apply, drop_row]
    · rw [Equiv.symm_apply_apply]
      exact Prod.ext rfl rfl

theorem pairs_eq (d : FVec Ideal S16384x1024 .f32) : pairs d =
    Host.reduce2 reducer_argmin_f32_i32 d (iotaInDim S16384x1024 32 1) (constant S_ .f32 0x7F800000#32) (constantI S_ 32 0#32)
      reducesTo_S16384x1024_S16384_d1 h_S_ := Ideal.argReduce_eq_reduce2 _ _ _ _ _ _ _

theorem top_first : (constant S_ .f32 0x7F800000#32 : FVec Ideal S_ .f32) (Shape.Idx.first h_S_) = (⊤ : EReal) := top_bits
theorem zero_first : (constantI S_ 32 0#32 : IVec S_ 32) (Shape.Idx.first h_S_) = 0#32 := rfl

theorem pairs_fold (d : FVec Ideal S16384x1024 .f32) (j : S16384.Idx) : pairs d j =
    (Host.argReduceFiber d (iotaInDim S16384x1024 32 1) reducesTo_S16384x1024_S16384_d1 j).foldl reducer_argmin_f32_i32 ((⊤ : EReal), 0#32) := by
  exact (congrFun (pairs_eq d) j).trans ((Host.reduce2_eq_foldl_fiber _ _ _ _ _ _ _ _).trans
    (congrArg₂ (fun x y => (Host.argReduceFiber d (iotaInDim S16384x1024 32 1) reducesTo_S16384x1024_S16384_d1 j).foldl reducer_argmin_f32_i32 (x, y))
      top_first zero_first))

theorem places_apply (p : S16384.Idx → Ideal .f32 × BitVec 32) (j : S16384.Idx) : places p j = (p j).2 := rfl

theorem fold_row (l : List (Ideal .f32 × BitVec 32)) (x : Fin 1024 → EReal)
    (hl : ∀ q : EReal × BitVec 32, q ∈ l ↔ ∃ k : Fin 1024, q = (x k, BitVec.ofNat 32 k.val)) :
    (l.foldl (reducer_argmin_f32_i32 (F := Ideal)) ((⊤ : EReal), 0#32)).2 = BitVec.ofNat 32 (firstMin x).val :=
  foldl_row _ pick x l hl

theorem pairs_snd (d : FVec Ideal S16384x1024 .f32) (r : Fin 16384) :
    (pairs d (ix1 r)).2 = BitVec.ofNat 32 (firstMin fun k => d (ix2 r k)).val := by
  rw [pairs_fold]
  exact fold_row _ _ (fiber d r)

theorem first_apply (d : FVec Ideal S16384x1024 .f32) (r : Fin 16384) :
    first d (ix1 r) = BitVec.ofNat 32 (firstMin fun k => d (ix2 r k)).val :=
  (places_apply (pairs d) (ix1 r)).trans (pairs_snd d r)

end Cert.ReferenceIdeal.Hand

end
-- ==== Proof.RefValue.lean ====
module

public import proofs.«01_k».proof.Proof.RefFirst

/-! The reference's results as functions of its arguments. -/

@[expose] public section

set_option maxRecDepth 16384

noncomputable section

namespace Cert.ReferenceIdeal.Hand

open Cert.ReferenceIdeal Cert.ReferenceIdeal.Gen Cert.Vq Idealize.ShloMosaic

variable (z : FVec Ideal S16x64x32x32 .f32) (w : FVec Ideal S1024x64 .f32)

/-- The codes chosen. -/
def chosenOf : IVec S16384 32 := first (dist z w)

theorem chosenOf_apply (b : Fin 16) (p : Fin 1024) :
    chosenOf z w (ix1 (row b p)) = BitVec.ofNat 32 (near (imagesOf z) (codesOf w) b p).val := by
  refine (first_apply (dist z w) (row b p)).trans ?_
  simp only [dist_apply]
  rfl

theorem words (a b : Fin 1024) : BitVec.ofNat 32 a.val = BitVec.ofNat 32 b.val ↔ b = a := by
  constructor
  · intro h
    have := congrArg BitVec.toNat h
    simp at this
    omega
  · rintro rfl; rfl

theorem hot_words (n : IVec S16384 32) (r : Fin 16384) (k : Fin 1024) :
    hot (F := Ideal) n (ix2 r k) = (((IntOp.cmpi .eq (n (ix1 r)) (BitVec.ofNat 32 k.val)).toNat : ℝ) : EReal) := by
  pointwise [hot]
  rfl

theorem hot_apply (b : Fin 16) (p k : Fin 1024) :
    hot (F := Ideal) (chosenOf z w) (ix2 (row b p) k) = if k = near (imagesOf z) (codesOf w) b p then (1 : EReal) else 0 := by
  rw [hot_words, chosenOf_apply]
  by_cases h : k = near (imagesOf z) (codesOf w) b p
  · rw [if_pos h, IntOp.cmpi]
    simp [(words _ k).mpr h]
  · rw [if_neg h, IntOp.cmpi]
    simp only [show (BitVec.ofNat 32 (near (imagesOf z) (codesOf w) b p).val == BitVec.ofNat 32 k.val) = false from
      beq_eq_false_iff_ne.mpr fun e => h ((words _ k).mp e)]
    simp

/-- The product of one-hot rows and the codes. -/
def taken (n : IVec S16384 32) : FVec Ideal S16384x64 .f32 := Host.dotGeneral dot_S16384x1024_S1024x64_S16384x64_1_0_0_1_n_n none (hot n) w

theorem taken_sum (n : IVec S16384 32) (r : Fin 16384) (d : Fin 64) : taken w n (ix2 r d) = ∑ k : Fin 1024, hot n (ix2 r k) * w (ix2 k d) := by
  pointwise [taken]

theorem taken_apply (b : Fin 16) (p : Fin 1024) (d : Fin 64) :
    taken w (chosenOf z w) (ix2 (row b p) d) = codesOf w (near (imagesOf z) (codesOf w) b p) d := by
  rw [taken_sum, Finset.sum_eq_single (near (imagesOf z) (codesOf w) b p)]
  · rw [hot_apply, if_pos rfl, one_mul]; rfl
  · intro k _ hk
    rw [hot_apply, if_neg hk, zero_mul]
  · intro h; exact absurd (Finset.mem_univ _) h

theorem back (x : FVec Ideal S16384x64 .f32) (b : Fin 16) (p : Fin 1024) (d : Fin 64) :
    transpose S16x64x32x32 [0, 3, 1, 2] (shapeCast S16x32x32x64 x shapeCasts_S16384x64_S16x32x32x64) transposes_S16x32x32x64_S16x64x32x32_0_3_1_2
      (ix4 b d (line p) (column p)) = x (ix2 (row b p) d) := by
  unfold row line column
  pointwise
  blk_ext

theorem quant_apply (b : Fin 16) (p : Fin 1024) (d : Fin 64) :
    quant (chosenOf z w) w (ix4 b d (line p) (column p)) = codesOf w (near (imagesOf z) (codesOf w) b p) d :=
  (back (taken w (chosenOf z w)) b p d).trans (taken_apply z w b p d)

/-- A sum over all the pixels, image by image. -/
theorem sum_rows (f : Fin 16384 → EReal) : ∑ r, f r = ∑ b : Fin 16, ∑ p : Fin 1024, f (row b p) := by
  rw [← Fintype.sum_prod_type']
  exact Fintype.sum_equiv (finProdFinEquiv (m := 16) (n := 1024)).symm _ _ fun r => congrArg f (Fin.ext (by
    simp [row, finProdFinEquiv, Nat.div_add_mod]))

theorem share_sum (n : IVec S16384 32) (k : Fin 1024) :
    share (F := Ideal) n (ix1 k) = Ideal.div (∑ r : Fin 16384, hot (F := Ideal) n (ix2 r k)) (Ideal.ofBits .f32 0x46800000#32) := by
  pointwise [share]

theorem share_apply (k : Fin 1024) : share (F := Ideal) (chosenOf z w) (ix1 k) = part (imagesOf z) (codesOf w) k := by
  rw [share_sum, div_pixels, sum_rows]
  unfold part tally
  simp only [hot_apply]

theorem perp_sum (s : FVec Ideal S1024 .f32) : perpOf s (fun a => a.elim0) =
    Ideal.exp (-∑ k : Fin 1024, s (ix1 k) * Ideal.log (s (ix1 k) + Ideal.ofBits .f32 0x2EDBE6FF#32)) := by
  pointwise [perpOf]

theorem perp_apply : perpOf (share (F := Ideal) (chosenOf z w)) (fun a => a.elim0) = perpFrom (part (imagesOf z) (codesOf w)) := by
  rw [perp_sum]
  unfold perpFrom
  simp only [share_apply, zero_sub]

theorem util_sum (s : FVec Ideal S1024 .f32) : utilOf s (fun a => a.elim0) =
    Ideal.div (∑ k : Fin 1024, (((Ideal.cmp .ogt (s (ix1 k)) 0).toNat : ℝ) : EReal)) (Ideal.ofBits .f32 0x44800000#32) := by
  pointwise [utilOf]
  rfl

theorem util_apply : utilOf (share (F := Ideal) (chosenOf z w)) (fun a => a.elim0) = utilFrom (part (imagesOf z) (codesOf w)) := by
  rw [util_sum, div_codes]
  unfold utilFrom
  refine congrArg (· * _) (Finset.sum_congr rfl fun k _ => ?_)
  rw [share_apply, Ideal.cmp]
  by_cases h : 0 < part (imagesOf z) (codesOf w) k <;> simp [h]

end Cert.ReferenceIdeal.Hand

end
-- ==== Proof.RefLoss.lean ====
module

public import proofs.«01_k».proof.Proof.RefValue

/-! The loss: a sum of least distances is a sum of squares when every element is a real number. -/

@[expose] public section

set_option maxRecDepth 16384

noncomputable section

namespace Cert.ReferenceIdeal.Hand

open Cert.ReferenceIdeal Cert.ReferenceIdeal.Gen Cert.Vq Idealize.ShloMosaic

variable (z : FVec Ideal S16x64x32x32 .f32) (w : FVec Ideal S1024x64 .f32)

theorem loss_terms (q : FVec Ideal S16x64x32x32 .f32) : lossOf q z (fun a => a.elim0) =
    meanSq q z (fun a => a.elim0) + Ideal.ofBits .f32 0x3E800000#32 * meanSq q z (fun a => a.elim0) := by
  pointwise [lossOf]

/-- A sum over every axis is the sum over all the indices. -/
theorem whole (x : S16x64x32x32.Idx → EReal) (a : EReal) (j : S_.Idx) :
    Ideal.hostReduceAdd reducesTo_S16x64x32x32_S_d0_1_2_3 x a j = a + ∑ b : Fin 16, ∑ d : Fin 64, ∑ i : Fin 32, ∑ l : Fin 32, x (ix4 b d i l) := by
  rw [Ideal.hostReduceAdd, Finset.filter_true_of_mem fun i _ => funext fun a => a.elim0, sum_idx4]

theorem mean_sum (q : FVec Ideal S16x64x32x32 .f32) : meanSq q z (fun a => a.elim0) =
    Ideal.div (∑ b : Fin 16, ∑ d : Fin 64, ∑ i : Fin 32, ∑ j : Fin 32, (q (ix4 b d i j) - z (ix4 b d i j)) * (q (ix4 b d i j) - z (ix4 b d i j)))
      (Ideal.ofBits .f32 0x49800000#32) := by
  pointwise [meanSq]
  rw [whole, zero_add]
  pointwise

/-- A sum over lines and columns is the sum over pixels. -/
theorem sum_pixels (f : Fin 32 → Fin 32 → EReal) : ∑ i, ∑ j, f i j = ∑ p : Fin 1024, f (line p) (column p) := by
  have h : ∑ p : Fin 1024, f (line p) (column p) = ∑ x : Fin 32 × Fin 32, f x.1 x.2 :=
    Fintype.sum_equiv (finProdFinEquiv (m := 32) (n := 32)).symm _ _ fun p => rfl
  rw [h, Fintype.sum_prod_type]

/-- The squares of what a pixel moves by, summed pixel by pixel. -/
theorem mean_apply (q : FVec Ideal S16x64x32x32 .f32) : meanSq q z (fun a => a.elim0) =
    (∑ b : Fin 16, ∑ p : Fin 1024, ∑ d : Fin 64, (q (ix4 b d (line p) (column p)) - imagesOf z b d p) * (q (ix4 b d (line p) (column p)) - imagesOf z b d p))
      * Ideal.ofBits .f32 0x35800000#32 := by
  rw [mean_sum, div_elems]
  have h (b : Fin 16) : (∑ d : Fin 64, ∑ i : Fin 32, ∑ j : Fin 32, (q (ix4 b d i j) - z (ix4 b d i j)) * (q (ix4 b d i j) - z (ix4 b d i j))) =
      ∑ p : Fin 1024, ∑ d : Fin 64, (q (ix4 b d (line p) (column p)) - imagesOf z b d p) * (q (ix4 b d (line p) (column p)) - imagesOf z b d p) := by
    rw [Finset.sum_comm (s := (Finset.univ : Finset (Fin 1024)))]
    exact Finset.sum_congr rfl fun d _ => sum_pixels fun i j => (q (ix4 b d i j) - z (ix4 b d i j)) * (q (ix4 b d i j) - z (ix4 b d i j))
  simp only [h]

theorem real_sum (f : Fin 64 → ℝ) : ∑ d, ((f d : ℝ) : EReal) = ((∑ d, f d : ℝ) : EReal) := by
  induction (Finset.univ : Finset (Fin 64)) using Finset.induction with
  | empty => simp
  | insert a s h ih => rw [Finset.sum_insert h, Finset.sum_insert h, ih, EReal.coe_add]

/-- Between real vectors the distance written out is the sum of the squared differences. -/
theorem away_squares (Z : Images) (W : Codes) (hz : ∀ b d p, ∃ r : ℝ, Z b d p = (r : EReal)) (hw : ∀ k d, ∃ r : ℝ, W k d = (r : EReal))
    (b : Fin 16) (p k : Fin 1024) : away Z W b p k = ∑ d : Fin 64, (W k d - Z b d p) * (W k d - Z b d p) := by
  choose x hx using fun d => hz b d p
  choose y hy using hw k
  unfold away
  simp only [hx, hy, ← EReal.coe_mul, ← EReal.coe_add, ← EReal.coe_sub, real_sum]
  refine congrArg _ ?_
  rw [← Finset.sum_sub_distrib, ← Finset.sum_add_distrib]
  exact Finset.sum_congr rfl fun d _ => by ring

theorem loss_apply (hz : ∀ i, ∃ r : ℝ, z i = (r : EReal)) (hw : ∀ i, ∃ r : ℝ, w i = (r : EReal)) :
    lossOf (quant (chosenOf z w) w) z (fun a => a.elim0) = lossFrom (total (imagesOf z) (codesOf w)) := by
  have h : meanSq (quant (chosenOf z w) w) z (fun a => a.elim0) = total (imagesOf z) (codesOf w) * Ideal.ofBits .f32 0x35800000#32 := by
    rw [mean_apply]
    unfold total
    simp only [quant_apply, ← away_squares (imagesOf z) (codesOf w) (fun b d p => hz _) (fun k d => hw _)]
  rw [loss_terms, h]
  rfl

end Cert.ReferenceIdeal.Hand

end
-- ==== Proof.Finite.lean ====
module

public import proofs.«01_k».proof.Proof.Gen.Pre_finite
public import proofs.«01_k».proof.Proof.Consts
public import Idealize.ShloMosaic.Lib.ReduceAll
public import Idealize.ShloMosaic.Lib.Pointwise

/-! What the precondition says of each element. -/

@[expose] public section

set_option maxRecDepth 16384

noncomputable section

namespace Cert.Vq

open Cert.Pre_finite Cert.Pre_finite.Gen Idealize.ShloMosaic

/-- A number whose size is below the top is a real number. -/
theorem real_of_size (x : EReal) (h : max x (-x) < ⊤) : ∃ r : ℝ, x = (r : EReal) := by
  induction x with
  | bot => simp at h
  | top => simp at h
  | coe r => exact ⟨r, rfl⟩

theorem both_one : ∀ a b : BitVec 1, IntOp.andi a b = 1#1 → a = 1#1 ∧ b = 1#1 := by decide

theorem real_of_test (x : EReal) (h : Ideal.cmp .olt (max x (-x)) (Ideal.ofBits .f32 0x7F800000#32) = 1#1) : ∃ r : ℝ, x = (r : EReal) := by
  refine real_of_size x ?_
  rw [top_bits] at h
  by_contra hx
  simp [Ideal.cmp, hx] at h

instance : Subsingleton S_.Idx := ⟨fun i j => funext fun a => a.elim0⟩

theorem finite_all (z : FVec Ideal S16x64x32x32 .f32) (w : FVec Ideal S1024x64 .f32) (h : Cert.Pre_finite.fn (F := Ideal) z w = fun _ => 1#1) :
    (∀ i, ∃ r : ℝ, z i = (r : EReal)) ∧ ∀ i, ∃ r : ℝ, w i = (r : EReal) := by
  have h0 := congrFun h (fun a => a.elim0)
  unfold Cert.Pre_finite.fn at h0
  dsimp only at h0
  obtain ⟨hz, hw⟩ := both_one _ _ h0
  refine ⟨fun i => real_of_test _ ?_, fun i => real_of_test _ ?_⟩
  · exact Host.reduce_andi_all _ _ _ _ _ hz i
  · exact Host.reduce_andi_all _ _ _ _ _ hw i

end Cert.Vq

end
-- ==== Proof.Image.lean ====
module

public import proofs.«01_k».proof.Proof.Nearest
public import proofs.«01_k».proof.Proof.Consts
public import proofs.«01_k».proof.Proof.Gen.KernelIdeal
public import proofs.«01_k».proof.Proof.Gen.KernelIdeal.Skeleton
public import Idealize.ShloMosaic.Lib.Pointwise

/-! What the kernel makes of one image, as arrays of the image and the codes, and those arrays read at an index. -/

@[expose] public section

set_option maxRecDepth 16384

noncomputable section

namespace Cert.KernelIdeal.Img

open Cert.KernelIdeal Cert.KernelIdeal.Gen Cert.Vq Idealize.ShloMosaic

/-- One image as a matrix, channels by pixels. -/
def flat (v : FVec Ideal S1x64x1024 .f32) : FVec Ideal S64x1024 .f32 := shapeCast S64x1024 v shapeCasts_S1x64x1024_S64x1024

/-- The sums of squares of the columns. -/
def sq (z : FVec Ideal S64x1024 .f32) : FVec Ideal S1x1024 .f32 :=
  shapeCast S1x1024 (multiReduction .add [0] S1024 (mulf z z) 0x00000000#32 reduces_S64x1024_S1024 (.inl rfl) rfl) shapeCasts_S1024_S1x1024

/-- The products of every code, doubled, with every pixel. -/
def prods (w2x : FVec Ideal S1024x64 .f32) (z : FVec Ideal S64x1024 .f32) : FVec Ideal S1024x1024 .f32 :=
  matmul dot_S1024x64_S64x1024_S1024x1024_1_0_0_1_n_n none w2x z (constant S1024x1024 .f32 0x00000000#32)

/-- The distances from the three parts of the square. -/
def gather (w2 : FVec Ideal S1024x1 .f32) (s : FVec Ideal S1x1024 .f32) (p : FVec Ideal S1024x1024 .f32) : FVec Ideal S1024x1024 .f32 :=
  addf (subf (broadcastTo S1024x1024 s broadcasts_S1x1024_S1024x1024) p) (broadcastTo S1024x1024 w2 broadcasts_S1024x1_S1024x1024)

/-- The distances of every code to every pixel. -/
def dist (w2x : FVec Ideal S1024x64 .f32) (w2 : FVec Ideal S1024x1 .f32) (z : FVec Ideal S64x1024 .f32) : FVec Ideal S1024x1024 .f32 :=
  gather w2 (sq z) (prods w2x z)

/-- The least entry of every column. -/
def best (d : FVec Ideal S1024x1024 .f32) : FVec Ideal S1x1024 .f32 :=
  shapeCast S1x1024 (multiReduction .minimumf [0] S1024 d 0x7F800000#32 reduces_S1024x1024_S1024 (.inl rfl) rfl) shapeCasts_S1024_S1x1024

/-- The row numbers of the least entries, a large number elsewhere. -/
def mark (d : FVec Ideal S1024x1024 .f32) : FVec Ideal S1024x1024 .f32 :=
  select (cmpf .oeq d (broadcastTo S1024x1024 (best d) broadcasts_S1x1024_S1024x1024))
    (sitofp .f32 (iota .tc S1024x1024 32 [0] iota_S1024x1024_d0_w32)) (broadcast S1024x1024 (Scalar.ofBits .f32 0x4E6E6B28#32))

/-- One in the row of the first least entry of each column, nought elsewhere. -/
def hot (d : FVec Ideal S1024x1024 .f32) : FVec Ideal S1024x1024 .f32 :=
  select (cmpf .oeq (mark d) (broadcastTo S1024x1024 (best (mark d)) broadcasts_S1x1024_S1024x1024))
    (broadcast S1024x1024 (Scalar.ofBits .f32 0x3F800000#32)) (broadcast S1024x1024 (Scalar.ofBits .f32 0x00000000#32))

/-- The row numbers chosen, as words. -/
def code (d : FVec Ideal S1024x1024 .f32) : IVec S1x1x1024 32 :=
  shapeCast S1x1x1024 (fptosi 32 (best (mark d))) shapeCasts_S1x1024_S1x1x1024

/-- The image moved to the codes chosen. -/
def out (wt z : FVec Ideal S64x1024 .f32) (d : FVec Ideal S1024x1024 .f32) : FVec Ideal S1x64x1024 .f32 :=
  shapeCast S1x64x1024 (addf z (subf (matmul dot_S64x1024_S1024x1024_S64x1024_1_0_0_1_n_n none wt (hot d) (constant S64x1024 .f32 0x00000000#32)) z))
    shapeCasts_S64x1024_S1x64x1024

/-- The sum of the least distances. -/
def loss (d : FVec Ideal S1024x1024 .f32) : FVec Ideal S1x1 .f32 :=
  broadcast S1x1 (extractAt ![0, 0, 0] (shapeCast S1x1x1
    (multiReduction .add [1, 2] S1 (shapeCast S1x1x1024 (best d) shapeCasts_S1x1024_S1x1x1024) 0x00000000#32 reduces_S1x1x1024_S1 (.inl rfl) rfl)
    shapeCasts_S1_S1x1x1) inpos_S1x1x1_p0_0_0)

/-- How many pixels chose each code. -/
def count (d : FVec Ideal S1024x1024 .f32) : FVec Ideal S1024x1 .f32 :=
  shapeCast S1024x1 (multiReduction .add [1] S1024 (hot d) 0x00000000#32 reduces_S1024x1024_S1024_2 (.inl rfl) rfl) shapeCasts_S1024_S1024x1

/-- A column of distances. -/
def col (d : FVec Ideal S1024x1024 .f32) (p : Fin 1024) : Fin 1024 → EReal := fun k => d (ix2 k p)

theorem dist_apply (w2x : FVec Ideal S1024x64 .f32) (w2 : FVec Ideal S1024x1 .f32) (z : FVec Ideal S64x1024 .f32) (k p : Fin 1024) :
    dist w2x w2 z (ix2 k p) = ((∑ d : Fin 64, z (ix2 d p) * z (ix2 d p)) - ∑ d : Fin 64, w2x (ix2 k d) * z (ix2 d p)) + w2 (ix2 k 0) := by
  pointwise [dist, gather, sq, prods]

theorem best_apply (d : FVec Ideal S1024x1024 .f32) (p : Fin 1024) : best d (ix2 0 p) = col d p (firstMin (col d p)) := by
  refine Eq.trans ?_ (fold_min (col d p))
  unfold col
  pointwise [best, top_bits]

theorem number (k : Fin 1024) : (FloatOps.sitofp FTy.f32 (BitVec.ofNat 32 k.val) : Ideal .f32) = (((k.val : ℝ)) : EReal) :=
  show ((((BitVec.ofNat 32 k.val).toInt : ℤ) : ℝ) : EReal) = _ by rw [toInt_ofNat_of_lt]; simp

theorem mark_col (d : FVec Ideal S1024x1024 .f32) (p : Fin 1024) : col (mark d) p = marks (col d p) := by
  funext k
  have hb := best_apply d p
  unfold col at hb
  unfold col marks
  pointwise [mark, big_bits]
  rw [hb, number]

theorem hot_apply (d : FVec Ideal S1024x1024 .f32) (k p : Fin 1024) : hot d (ix2 k p) = if k = firstMin (col d p) then 1 else 0 := by
  have hb := best_apply (mark d) p
  rw [mark_col, firstMin_marks, marks_first] at hb
  have hm : mark d (ix2 k p) = marks (col d p) k := congrFun (mark_col d p) k
  pointwise [hot]
  rw [hb, hm]
  simp only [marks_eq_iff]

theorem code_apply (d : FVec Ideal S1024x1024 .f32) (p : Fin 1024) : code d (ix3 0 0 p) = BitVec.ofNat 32 (firstMin (col d p)).val := by
  have hb := best_apply (mark d) p
  rw [mark_col, firstMin_marks, marks_first] at hb
  pointwise [code]
  rw [hb]
  exact word_of_nat _

theorem out_apply (wt z : FVec Ideal S64x1024 .f32) (d : FVec Ideal S1024x1024 .f32) (c : Fin 64) (p : Fin 1024) :
    out wt z d (ix3 0 c p) = z (ix2 c p) + (wt (ix2 c (firstMin (col d p))) - z (ix2 c p)) := by
  have h : ∑ k : Fin 1024, wt (ix2 c k) * hot d (ix2 k p) = wt (ix2 c (firstMin (col d p))) := by
    rw [Finset.sum_eq_single (firstMin (col d p))]
    · rw [hot_apply, if_pos rfl, mul_one]
    · intro k _ hk; rw [hot_apply, if_neg hk, mul_zero]
    · intro h; exact absurd (Finset.mem_univ _) h
  pointwise [out]
  rw [h]

theorem sum_lanes (x : FVec Ideal S1x1x1024 .f32) :
    multiReduction .add [1, 2] S1 x 0x00000000#32 reduces_S1x1x1024_S1 (.inl rfl) rfl (ix1 0) = ∑ p : Fin 1024, x (ix3 0 0 p) := by
  pointwise
  simp

theorem lanes (d : FVec Ideal S1x1024 .f32) (p : Fin 1024) : shapeCast S1x1x1024 d shapeCasts_S1x1024_S1x1x1024 (ix3 0 0 p) = d (ix2 0 p) := by
  pointwise

theorem single (x : FVec Ideal S1 .f32) :
    broadcast S1x1 (extractAt ![0, 0, 0] (shapeCast S1x1x1 x shapeCasts_S1_S1x1x1) inpos_S1x1x1_p0_0_0) (ix2 0 0) = x (ix1 0) := by
  pointwise

theorem loss_apply (d : FVec Ideal S1024x1024 .f32) : loss d (ix2 0 0) = ∑ p : Fin 1024, col d p (firstMin (col d p)) := by
  unfold loss
  rw [single, sum_lanes]
  exact Finset.sum_congr rfl fun p _ => (lanes (best d) p).trans (best_apply d p)

theorem count_apply (d : FVec Ideal S1024x1024 .f32) (k : Fin 1024) :
    count d (ix2 k 0) = ∑ p : Fin 1024, if k = firstMin (col d p) then (1 : EReal) else 0 := by
  refine Eq.trans ?_ (Finset.sum_congr rfl fun p _ => hot_apply d k p)
  pointwise [count]

end Cert.KernelIdeal.Img

end
-- ==== Proof.Parts.lean ====
module

public import proofs.«01_k».proof.Proof.Image
public import Idealize.ShloMosaic.Lib.Pipeline.Value

/-! The generated pieces of the body, which name every step of each of the four images separately, folded to the arrays of Image.lean. -/

@[expose] public section

set_option maxRecDepth 16384

noncomputable section

namespace Cert.KernelIdeal.Img

open Cert.KernelIdeal Cert.KernelIdeal.Gen Cert.Vq Idealize.ShloMosaic

theorem p11 (v : FVec Ideal S64x1024 .f32) : k0_pay11 v = v := shapeCast_self v _
theorem p13 (v : FVec Ideal S1024x1 .f32) : k0_pay13 v = v := shapeCast_self v _
theorem p14 (v : FVec Ideal S1x64x1024 .f32) : k0_pay14 v = flat v := rfl
theorem p16 (v : FVec Ideal S1x64x1024 .f32) : k0_pay16 v = flat v := rfl
theorem p19 (v : FVec Ideal S1x64x1024 .f32) : k0_pay19 v = flat v := rfl
theorem p22 (v : FVec Ideal S1x64x1024 .f32) : k0_pay22 v = flat v := rfl
theorem p12 (v : FVec Ideal S1024x64 .f32) : k0_pay12 v = v := shapeCast_self v _
theorem p15 (w : FVec Ideal S1024x64 .f32) (v : FVec Ideal S1x64x1024 .f32) : k0_pay15 w v = prods w (flat v) :=
  show prods (k0_pay12 w) (flat v) = _ by rw [p12]
theorem p18 (w : FVec Ideal S1024x64 .f32) (v : FVec Ideal S1x64x1024 .f32) : k0_pay18 w v = prods w (flat v) := p15 w v
theorem p21 (w : FVec Ideal S1024x64 .f32) (v : FVec Ideal S1x64x1024 .f32) : k0_pay21 w v = prods w (flat v) := p15 w v
theorem p24 (w : FVec Ideal S1024x64 .f32) (v : FVec Ideal S1x64x1024 .f32) : k0_pay24 w v = prods w (flat v) := p15 w v
theorem p17 (v : FVec Ideal S1x64x1024 .f32) : k0_pay17 v = sq (flat v) := rfl
theorem p20 (v : FVec Ideal S1x64x1024 .f32) : k0_pay20 v = sq (flat v) := rfl
theorem p23 (v : FVec Ideal S1x64x1024 .f32) : k0_pay23 v = sq (flat v) := rfl

section First
variable (a : FVec Ideal S1024x1 .f32) (b : FVec Ideal S1024x1024 .f32) (v : FVec Ideal S1x64x1024 .f32) (wt z : FVec Ideal S64x1024 .f32)
theorem p27 : k0_pay27 a b (k0_pay26 v) = gather a (sq (flat v)) b := rfl
theorem p28 : k0_pay28 a b (k0_pay26 v) = best (gather a (sq (flat v)) b) := congrArg best (p27 a b v)
theorem p29 : k0_pay29 a b k0_pay25 (k0_pay26 v) = mark (gather a (sq (flat v)) b) := by
  unfold k0_pay29; rw [p28, p27]; rfl
theorem p30 : k0_pay30 a b k0_pay25 (k0_pay26 v) = best (mark (gather a (sq (flat v)) b)) := congrArg best (p29 a b v)
theorem p31 : k0_pay31 a b k0_pay25 (k0_pay26 v) = code (gather a (sq (flat v)) b) := by
  unfold k0_pay31; rw [p30]; rfl
theorem p32 : k0_pay32 a b k0_pay25 (k0_pay26 v) = hot (gather a (sq (flat v)) b) := by
  unfold k0_pay32; rw [p30, p29]; rfl
theorem p33 : k0_pay33 wt a z b k0_pay25 (k0_pay26 v) = out wt z (gather a (sq (flat v)) b) := by
  unfold k0_pay33; rw [p32]; rfl
theorem p34 : k0_pay34 a b (k0_pay26 v) = loss (gather a (sq (flat v)) b) := by
  unfold k0_pay34; rw [p28]; rfl
theorem p35 : k0_pay35 a b k0_pay25 (k0_pay26 v) = count (gather a (sq (flat v)) b) := by
  unfold k0_pay35; rw [p32]; rfl
end First

section Others
variable (a : FVec Ideal S1024x1 .f32) (s : FVec Ideal S1x1024 .f32) (b : FVec Ideal S1024x1024 .f32) (wt z : FVec Ideal S64x1024 .f32)
  (l : FVec Ideal S1x1 .f32) (n : FVec Ideal S1024x1 .f32)
theorem p37 : k0_pay37 a s b = best (gather a s b) := rfl
theorem p40 : k0_pay40 (k0_pay25 (F := Ideal)) (k0_pay38 a s b) k0_pay39 = mark (gather a s b) := rfl
theorem p41 : k0_pay41 (k0_pay25 (F := Ideal)) (k0_pay38 a s b) k0_pay39 = best (mark (gather a s b)) := congrArg best (p40 a s b)
theorem p42 : k0_pay42 (k0_pay25 (F := Ideal)) (k0_pay38 a s b) k0_pay39 = code (gather a s b) := by
  unfold k0_pay42; rw [p41]; rfl
theorem p43 : k0_pay43 (k0_pay25 (F := Ideal)) (k0_pay38 a s b) k0_pay39 = hot (gather a s b) := by
  unfold k0_pay43; rw [p41, p40]; rfl
theorem p44 : k0_pay44 wt z k0_pay25 (k0_pay38 a s b) k0_pay39 = out wt z (gather a s b) := by
  unfold k0_pay44; rw [p43]; rfl
theorem p45 (d : FVec Ideal S1024x1024 .f32) : k0_pay45 l (best d) = addf l (loss d) := rfl
theorem p46 : k0_pay46 k0_pay25 n (k0_pay38 a s b) k0_pay39 = addf n (count (gather a s b)) := by
  unfold k0_pay46; rw [p43]; rfl
theorem p48 : k0_pay48 a s b = best (gather a s b) := rfl
theorem p49 : k0_pay49 a s b k0_pay25 = mark (gather a s b) := rfl
theorem p50 : k0_pay50 a s b k0_pay25 = best (mark (gather a s b)) := congrArg best (p49 a s b)
theorem p52 : k0_pay52 (k0_pay51 a s b k0_pay25) = code (gather a s b) := by
  unfold k0_pay52 k0_pay51; rw [p50]; rfl
theorem p53 (d : FVec Ideal S1024x1024 .f32) : k0_pay53 (mark d) (best (mark d)) = hot d := rfl
theorem p54 (d : FVec Ideal S1024x1024 .f32) : k0_pay54 wt z (mark d) (best (mark d)) = out wt z d := by
  unfold k0_pay54; rw [p53]; rfl
theorem p55 (d : FVec Ideal S1024x1024 .f32) : k0_pay55 l (best d) = addf l (loss d) := rfl
theorem p56 (d : FVec Ideal S1024x1024 .f32) : k0_pay56 n (mark d) (best (mark d)) = addf n (count d) := by
  unfold k0_pay56; rw [p53]; rfl
theorem p58 : k0_pay58 a s b = best (gather a s b) := rfl
theorem p59 : k0_pay59 a s b k0_pay25 = mark (gather a s b) := rfl
theorem p60 : k0_pay60 a s b k0_pay25 = best (mark (gather a s b)) := congrArg best (p59 a s b)
theorem p61 : k0_pay61 a s b k0_pay25 = code (gather a s b) := by
  unfold k0_pay61; rw [p60]; rfl
theorem p1 : k0_pay1 (k0_pay62 a s b k0_pay25) (FloatOps.ofBits .f32 0x3F800000#32) (FloatOps.ofBits .f32 0x00000000#32) = hot (gather a s b) := by
  unfold k0_pay1 k0_pay62; rw [p60, p59]; rfl
theorem p2 : k0_pay2 wt z (k0_pay62 a s b k0_pay25) (FloatOps.ofBits .f32 0x3F800000#32) (FloatOps.ofBits .f32 0x00000000#32) = out wt z (gather a s b) := by
  unfold k0_pay2; rw [p1]; rfl
theorem p3 (d : FVec Ideal S1024x1024 .f32) : k0_pay3 l (best d) = addf l (loss d) := rfl
theorem p4 : k0_pay4 n (k0_pay62 a s b k0_pay25) (FloatOps.ofBits .f32 0x3F800000#32) (FloatOps.ofBits .f32 0x00000000#32) = addf n (count (gather a s b)) := by
  unfold k0_pay4; rw [p1]; rfl
theorem p5 (n' : FVec Ideal S1024x1 .f32) : k0_pay5 n (k0_pay62 a s b k0_pay25) (FloatOps.ofBits .f32 0x3F800000#32) (FloatOps.ofBits .f32 0x00000000#32) n' =
    addf n' (addf n (count (gather a s b))) := by
  unfold k0_pay5; rw [p4, shapeCast_self]
theorem p6 (d : FVec Ideal S1024x1024 .f32) (l' : FVec Ideal S1x1 .f32) : k0_pay6 l (best d) l' = addf l' (addf l (loss d)) := by
  unfold k0_pay6; rw [p3, shapeCast_self]
end Others

end Cert.KernelIdeal.Img

end
-- ==== Proof.Points.lean ====
module

public import proofs.«01_k».proof.Proof.Parts
public import proofs.«01_k».proof.Proof.Gen.KernelIdeal.Frame
public import Idealize.ShloMosaic.Lib.Pipeline.ValueKit

/-! What each grid point leaves in each output's buffer, in the terms of Image.lean. -/

@[expose] public section

set_option maxRecDepth 16384

noncomputable section

namespace Cert.KernelIdeal.Img

open Cert.KernelIdeal Cert.KernelIdeal.Gen Cert.Vq Idealize.ShloMosaic Idealize.ShloMosaic.TcCoe Idealize.SL.Sem
open Idealize.ShloMosaic.Pipeline (Dat)

theorem slab_inb (j : Fin 4) : ∀ a, (![j.val, 0, 0] : Fin 3 → Nat) a + S1x64x1024.size a ≤ S4x64x1024.size a := by
  fin_cases j <;> decide

/-- One image of the four of a point. -/
def slab (x : Vec Ideal S4x64x1024 .f32) (j : Fin 4) : FVec Ideal S1x64x1024 .f32 :=
  View.ld x (Rect.unit (s := S4x64x1024) ![j.val, 0, 0] S1x64x1024.size (slab_inb j))

/-- The distances of one image. -/
def far (x : Vec Ideal S4x64x1024 .f32) (w2x : Vec Ideal S1024x64 .f32) (w2 : Vec Ideal S1024x1 .f32) (j : Fin 4) : FVec Ideal S1024x1024 .f32 :=
  dist w2x w2 (flat (slab x j))

/-- One of the four images moved to its codes. -/
def moved (x : Vec Ideal S4x64x1024 .f32) (wt : Vec Ideal S64x1024 .f32) (w2x : Vec Ideal S1024x64 .f32) (w2 : Vec Ideal S1024x1 .f32) (j : Fin 4) :
    FVec Ideal S1x64x1024 .f32 := out wt (flat (slab x j)) (far x w2x w2 j)

/-- The least distances of the four images of a point, summed. -/
def lossOf (x : Vec Ideal S4x64x1024 .f32) (w2x : Vec Ideal S1024x64 .f32) (w2 : Vec Ideal S1024x1 .f32) : FVec Ideal S1x1 .f32 :=
  addf (addf (addf (loss (far x w2x w2 0)) (loss (far x w2x w2 1))) (loss (far x w2x w2 2))) (loss (far x w2x w2 3))

/-- How many pixels of the four images of a point chose each code. -/
def countOf (x : Vec Ideal S4x64x1024 .f32) (w2x : Vec Ideal S1024x64 .f32) (w2 : Vec Ideal S1024x1 .f32) : FVec Ideal S1024x1 .f32 :=
  addf (addf (addf (count (far x w2x w2 0)) (count (far x w2x w2 1))) (count (far x w2x w2 2))) (count (far x w2x w2 3))

variable (m : (ℓ : Loc nD τ sig) → Buf (Elt Ideal) ℓ) (c : Dev nD) (t : Fin cfg0.N)

/-- The count after a point, and the loss before its last scaling. -/
abbrev countTerm : FVec Ideal S1024x1 .f32 := countOf (iblk m c 0 t) (iblk m c 2 t) (iblk m c 3 t)
abbrev lossTerm : FVec Ideal S1x1 .f32 := lossOf (iblk m c 0 t) (iblk m c 2 t) (iblk m c 3 t)

theorem count_A (h0 : t.val % 4 = 0) (h1 : ¬1 ≤ t.val) (h2 : ¬t.val % 4 = 3) : (outsAt0 m c t.val t.isLt).2.2.1 = countTerm m c t := by
  rw [outsAt0_A m c t h0 h1 h2]
  frame_out
  simp only [p1, p3, p4, p5, p6, p13, p15, p17, p18, p20, p21, p23, p24, p28, p34, p35, p37, p45, p46, p48, p49, p50, p55, p56, p58]
  rfl

theorem loss_A (h0 : t.val % 4 = 0) (h1 : ¬1 ≤ t.val) (h2 : ¬t.val % 4 = 3) : (outsAt0 m c t.val t.isLt).2.2.2.1 = lossTerm m c t := by
  rw [outsAt0_A m c t h0 h1 h2]
  frame_out
  simp only [p1, p3, p4, p5, p6, p13, p15, p17, p18, p20, p21, p23, p24, p28, p34, p35, p37, p45, p46, p48, p49, p50, p55, p56, p58]
  rfl

theorem count_B (h0 : ¬t.val % 4 = 0) (h1 : 1 ≤ t.val) (h2 : ¬t.val % 4 = 3) : (outsAt0 m c t.val t.isLt).2.2.1 =
    addf (outsAt0 m c (t.val - 1) (Nat.lt_of_le_of_lt (Nat.sub_le _ _) t.isLt)).2.2.1 (countTerm m c t) := by
  rw [outsAt0_B m c t h0 h1 h2]
  frame_out
  simp only [p1, p3, p4, p5, p6, p13, p15, p17, p18, p20, p21, p23, p24, p28, p34, p35, p37, p45, p46, p48, p49, p50, p55, p56, p58]
  rfl

theorem count_C (h0 : ¬t.val % 4 = 0) (h1 : 1 ≤ t.val) (h2 : t.val % 4 = 3) : (outsAt0 m c t.val t.isLt).2.2.1 =
    addf (outsAt0 m c (t.val - 1) (Nat.lt_of_le_of_lt (Nat.sub_le _ _) t.isLt)).2.2.1 (countTerm m c t) := by
  rw [outsAt0_C m c t h0 h1 h2]
  frame_out
  simp only [p1, p3, p4, p5, p6, p13, p15, p17, p18, p20, p21, p23, p24, p28, p34, p35, p37, p45, p46, p48, p49, p50, p55, p56, p58]
  rfl

theorem loss_B (h0 : ¬t.val % 4 = 0) (h1 : 1 ≤ t.val) (h2 : ¬t.val % 4 = 3) : (outsAt0 m c t.val t.isLt).2.2.2.1 =
    addf (outsAt0 m c (t.val - 1) (Nat.lt_of_le_of_lt (Nat.sub_le _ _) t.isLt)).2.2.2.1 (lossTerm m c t) := by
  rw [outsAt0_B m c t h0 h1 h2]
  frame_out
  simp only [p1, p3, p4, p5, p6, p13, p15, p17, p18, p20, p21, p23, p24, p28, p34, p35, p37, p45, p46, p48, p49, p50, p55, p56, p58]
  rfl

theorem loss_C (h0 : ¬t.val % 4 = 0) (h1 : 1 ≤ t.val) (h2 : t.val % 4 = 3) : (outsAt0 m c t.val t.isLt).2.2.2.1 = k0_pay7
    (addf (outsAt0 m c (t.val - 1) (Nat.lt_of_le_of_lt (Nat.sub_le _ _) t.isLt)).2.2.2.1 (lossTerm m c t)) := by
  rw [outsAt0_C m c t h0 h1 h2]
  frame_out
  simp only [p1, p3, p4, p5, p6, p13, p15, p17, p18, p20, p21, p23, p24, p28, p34, p35, p37, p45, p46, p48, p49, p50, p55, p56, p58]
  rfl

theorem perp_C (h0 : ¬t.val % 4 = 0) (h1 : 1 ≤ t.val) (h2 : t.val % 4 = 3) : (outsAt0 m c t.val t.isLt).2.2.2.2.1 = k0_pay9 (outsAt0 m c t.val t.isLt).2.2.1 := by
  rw [count_C m c t h0 h1 h2, outsAt0_C m c t h0 h1 h2]
  frame_out
  simp only [p1, p3, p4, p5, p6, p13, p15, p17, p18, p20, p21, p23, p24, p28, p34, p35, p37, p45, p46, p48, p49, p50, p55, p56, p58]
  rfl

theorem util_C (h0 : ¬t.val % 4 = 0) (h1 : 1 ≤ t.val) (h2 : t.val % 4 = 3) : (outsAt0 m c t.val t.isLt).2.2.2.2.2 = k0_pay10 (outsAt0 m c t.val t.isLt).2.2.1 := by
  rw [count_C m c t h0 h1 h2, outsAt0_C m c t h0 h1 h2]
  frame_out
  simp only [p1, p3, p4, p5, p6, p13, p15, p17, p18, p20, p21, p23, p24, p28, p34, p35, p37, p45, p46, p48, p49, p50, p55, p56, p58]
  rfl

end Cert.KernelIdeal.Img

end
-- ==== Proof.Tiles.lean ====
module

public import proofs.«01_k».proof.Proof.Points

/-! What each grid point leaves in the two outputs it fills image by image. -/

@[expose] public section

set_option maxRecDepth 16384

noncomputable section

namespace Cert.KernelIdeal.Img

open Cert.KernelIdeal Cert.KernelIdeal.Gen Cert.Vq Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The four moved images, one after the other. -/
def movedOf (x : Vec Ideal S4x64x1024 .f32) (wt : Vec Ideal S64x1024 .f32) (w2x : Vec Ideal S1024x64 .f32) (w2 : Vec Ideal S1024x1 .f32) :
    Vec Ideal S4x64x1024 .f32 := fun y => moved x wt w2x w2 (y 0) (ix3 0 (y 1) (y 2))

/-- The four images' codes, one after the other. -/
def codesOf (x : Vec Ideal S4x64x1024 .f32) (w2x : Vec Ideal S1024x64 .f32) (w2 : Vec Ideal S1024x1 .f32) :
    Vec Ideal S4x1x1024 .i32 := fun y => code (far x w2x w2 (y 0)) (ix3 0 0 (y 2))

theorem moved_piece (x : Vec Ideal S4x64x1024 .f32) (wt : Vec Ideal S64x1024 .f32) (w2x : Vec Ideal S1024x64 .f32) (w2 : Vec Ideal S1024x1 .f32)
    (j : Fin 4) (y : S4x64x1024.Idx) (i : S1x64x1024.Idx) (h0 : (y 0).val = j.val + (i 0).val) (h1 : (y 1).val = (i 1).val) (h2 : (y 2).val = (i 2).val) :
    moved x wt w2x w2 j i = movedOf x wt w2x w2 y := by
  have hi : i = ix3 0 (y 1) (y 2) := by
    funext a; apply Fin.ext
    match a with
    | ⟨0, _⟩ => exact Nat.lt_one_iff.mp (i 0).isLt
    | ⟨1, _⟩ => exact h1.symm
    | ⟨2, _⟩ => exact h2.symm
  have hj : y 0 = j := Fin.ext (h0.trans (by have : (i 0).val < 1 := (i 0).isLt; omega))
  unfold movedOf
  rw [hi, hj]
  rfl

theorem codes_piece (x : Vec Ideal S4x64x1024 .f32) (w2x : Vec Ideal S1024x64 .f32) (w2 : Vec Ideal S1024x1 .f32)
    (j : Fin 4) (y : S4x1x1024.Idx) (i : S1x1x1024.Idx) (h0 : (y 0).val = j.val + (i 0).val) (h2 : (y 2).val = (i 2).val) :
    code (far x w2x w2 j) i = codesOf x w2x w2 y := by
  have hi : i = ix3 0 0 (y 2) := by
    funext a; apply Fin.ext
    match a with
    | ⟨0, _⟩ => exact Nat.lt_one_iff.mp (i 0).isLt
    | ⟨1, _⟩ => exact Nat.lt_one_iff.mp (i 1).isLt
    | ⟨2, _⟩ => exact h2.symm
  have hj : y 0 = j := Fin.ext (h0.trans (by have : (i 0).val < 1 := (i 0).isLt; omega))
  unfold codesOf
  rw [hi, hj]
  rfl

theorem moved_A (h0 : t.val % 4 = 0) (h1 : ¬1 ≤ t.val) (h2 : ¬t.val % 4 = 3) :
    (outsAt0 m c t.val t.isLt).1 = movedOf (iblk m c 0 t) (iblk m c 1 t) (iblk m c 2 t) (iblk m c 3 t) := by
  rw [outsAt0_A m c t h0 h1 h2]
  frame_out
  simp only [p2, p11, p12, p13, p14, p15, p16, p17, p18, p19, p20, p21, p22, p23, p24, p33, p44, p49, p50, p54]
  funext y
  canon_tiles x h
  · exact moved_piece _ _ _ _ 3 y x h0 h1 h2
  · exact moved_piece _ _ _ _ 2 y x h0 h1 h2
  · exact moved_piece _ _ _ _ 1 y x h0 h1 h2
  · exact moved_piece _ _ _ _ 0 y x (h0.trans (Nat.zero_add _).symm) h1 h2

theorem codes_A (h0 : t.val % 4 = 0) (h1 : ¬1 ≤ t.val) (h2 : ¬t.val % 4 = 3) :
    (outsAt0 m c t.val t.isLt).2.1 = codesOf (iblk m c 0 t) (iblk m c 2 t) (iblk m c 3 t) := by
  rw [outsAt0_A m c t h0 h1 h2]
  frame_out
  simp only [p12, p13, p14, p15, p16, p17, p18, p19, p20, p21, p22, p23, p24, p31, p42, p52, p61]
  funext y
  canon_tiles x h
  · exact codes_piece _ _ _ 3 y x h0 h2
  · exact codes_piece _ _ _ 2 y x h0 h2
  · exact codes_piece _ _ _ 1 y x h0 h2
  · exact codes_piece _ _ _ 0 y x (h0.trans (Nat.zero_add _).symm) h2

theorem moved_B (h0 : ¬t.val % 4 = 0) (h1 : 1 ≤ t.val) (h2 : ¬t.val % 4 = 3) :
    (outsAt0 m c t.val t.isLt).1 = movedOf (iblk m c 0 t) (iblk m c 1 t) (iblk m c 2 t) (iblk m c 3 t) := by
  rw [outsAt0_B m c t h0 h1 h2]
  frame_out
  simp only [p2, p11, p12, p13, p14, p15, p16, p17, p18, p19, p20, p21, p22, p23, p24, p33, p44, p49, p50, p54]
  funext y
  canon_tiles x h
  · exact moved_piece _ _ _ _ 3 y x h0 h1 h2
  · exact moved_piece _ _ _ _ 2 y x h0 h1 h2
  · exact moved_piece _ _ _ _ 1 y x h0 h1 h2
  · exact moved_piece _ _ _ _ 0 y x (h0.trans (Nat.zero_add _).symm) h1 h2

theorem codes_B (h0 : ¬t.val % 4 = 0) (h1 : 1 ≤ t.val) (h2 : ¬t.val % 4 = 3) :
    (outsAt0 m c t.val t.isLt).2.1 = codesOf (iblk m c 0 t) (iblk m c 2 t) (iblk m c 3 t) := by
  rw [outsAt0_B m c t h0 h1 h2]
  frame_out
  simp only [p12, p13, p14, p15, p16, p17, p18, p19, p20, p21, p22, p23, p24, p31, p42, p52, p61]
  funext y
  canon_tiles x h
  · exact codes_piece _ _ _ 3 y x h0 h2
  · exact codes_piece _ _ _ 2 y x h0 h2
  · exact codes_piece _ _ _ 1 y x h0 h2
  · exact codes_piece _ _ _ 0 y x (h0.trans (Nat.zero_add _).symm) h2

theorem moved_C (h0 : ¬t.val % 4 = 0) (h1 : 1 ≤ t.val) (h2 : t.val % 4 = 3) :
    (outsAt0 m c t.val t.isLt).1 = movedOf (iblk m c 0 t) (iblk m c 1 t) (iblk m c 2 t) (iblk m c 3 t) := by
  rw [outsAt0_C m c t h0 h1 h2]
  frame_out
  simp only [p2, p11, p12, p13, p14, p15, p16, p17, p18, p19, p20, p21, p22, p23, p24, p33, p44, p49, p50, p54]
  funext y
  canon_tiles x h
  · exact moved_piece _ _ _ _ 3 y x h0 h1 h2
  · exact moved_piece _ _ _ _ 2 y x h0 h1 h2
  · exact moved_piece _ _ _ _ 1 y x h0 h1 h2
  · exact moved_piece _ _ _ _ 0 y x (h0.trans (Nat.zero_add _).symm) h1 h2

theorem codes_C (h0 : ¬t.val % 4 = 0) (h1 : 1 ≤ t.val) (h2 : t.val % 4 = 3) :
    (outsAt0 m c t.val t.isLt).2.1 = codesOf (iblk m c 0 t) (iblk m c 2 t) (iblk m c 3 t) := by
  rw [outsAt0_C m c t h0 h1 h2]
  frame_out
  simp only [p12, p13, p14, p15, p16, p17, p18, p19, p20, p21, p22, p23, p24, p31, p42, p52, p61]
  funext y
  canon_tiles x h
  · exact codes_piece _ _ _ 3 y x h0 h2
  · exact codes_piece _ _ _ 2 y x h0 h2
  · exact codes_piece _ _ _ 1 y x h0 h2
  · exact codes_piece _ _ _ 0 y x (h0.trans (Nat.zero_add _).symm) h2

theorem moved_at : (outsAt0 m c t.val t.isLt).1 = movedOf (iblk m c 0 t) (iblk m c 1 t) (iblk m c 2 t) (iblk m c 3 t) := by
  have ht : t.val < 4 := lt_of_lt_of_eq t.isLt N_0
  by_cases h0 : t.val % 4 = 0
  · exact moved_A m c t h0 (by omega) (by omega)
  · by_cases h2 : t.val % 4 = 3
    · exact moved_C m c t h0 (by omega) h2
    · exact moved_B m c t h0 (by omega) h2

theorem codes_at : (outsAt0 m c t.val t.isLt).2.1 = codesOf (iblk m c 0 t) (iblk m c 2 t) (iblk m c 3 t) := by
  have ht : t.val < 4 := lt_of_lt_of_eq t.isLt N_0
  by_cases h0 : t.val % 4 = 0
  · exact codes_A m c t h0 (by omega) (by omega)
  · by_cases h2 : t.val % 4 = 3
    · exact codes_C m c t h0 (by omega) h2
    · exact codes_B m c t h0 (by omega) h2

end Cert.KernelIdeal.Img

end
-- ==== Proof.Final.lean ====
module

public import proofs.«01_k».proof.Proof.Tiles
public import proofs.«01_k».proof.Proof.Meaning
public import Idealize.ShloMosaic.Lib.Claim

/-! The arrays the kernel ends with, as functions of its two arguments. -/

@[expose] public section

set_option maxRecDepth 16384

noncomputable section

namespace Cert.KernelIdeal.Img

open Cert.KernelIdeal Cert.KernelIdeal.Gen Cert.Vq Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The arguments by image, channel, pixel, and by code, channel. -/
def zOf : Images := fun b d p => (shapeCast S16x64x1024 (m ((c : Thread nD τ).loc main_arg0) : FVec Ideal S16x64x32x32 .f32) shapeCasts_S16x64x32x32_S16x64x1024) (ix3 b d p)
def wOf : Codes := fun k d => (m ((c : Thread nD τ).loc main_arg1) : FVec Ideal S1024x64 .f32) (ix2 k d)

/-- The windows' block indices. -/
theorem idx : ∀ t : Fin cfg0.N, win0_0.index t = ![t.val, 0, 0] ∧ win0_1.index t = ![0, 0] ∧ win0_2.index t = ![0, 0] ∧ win0_3.index t = ![0, 0]
    ∧ win0_4.index t = ![t.val, 0, 0] ∧ win0_5.index t = ![t.val, 0, 0] ∧ win0_6.index t = ![0, 0] ∧ win0_7.index t = ![0, 0] ∧ win0_8.index t = ![0, 0]
    ∧ win0_9.index t = ![0, 0] :=
  (by decide +kernel : ∀ t : Fin grid0.N, _)

/-- Image `j` of point `t` among the sixteen. -/
def at4 (t : Fin cfg0.N) (j : Fin 4) : Fin 16 := ⟨4 * t.val + j.val, by have := lt_of_lt_of_eq t.isLt N_0; omega⟩

/-- What the buffers hold when the first point starts. -/
theorem host_z (b : Fin 16) (d : Fin 64) (p : Fin 1024) : (V m c main_v0 : Vec Ideal S16x64x1024 .f32) (ix3 b d p) = zOf m c b d p := by
  unfold zOf
  entry_read
  rfl

theorem host_wt (d : Fin 64) (k : Fin 1024) : (V m c main_v4 : Vec Ideal S64x1024 .f32) (ix2 d k) = wOf m c k d := by
  unfold wOf
  rw [show (V m c main_v4 : Vec Ideal S64x1024 .f32) =
    transpose S64x1024 [1, 0] (m ((c : Thread nD τ).loc main_arg1) : FVec Ideal S1024x64 .f32) transposes_S1024x64_S64x1024_1_0 from rfl]
  pointwise

theorem host_w2x (k : Fin 1024) (d : Fin 64) : (V m c main_v5 : Vec Ideal S1024x64 .f32) (ix2 k d) = wOf m c k d + wOf m c k d := by
  unfold wOf
  entry_read
  rfl

/-- The squared lengths of the codes. -/
def lengths (w : FVec Ideal S1024x64 .f32) : FVec Ideal S1024x1 .f32 :=
  broadcastInDim S1024x1 ![0] bcast_S1024_S1024x1_0 (Host.reduceAdd (mulf w w) (constant S_ .f32 0x00000000#32) reducesTo_S1024x64_S1024_d1 h_S_)

theorem lengths_apply (w : FVec Ideal S1024x64 .f32) (k : Fin 1024) : lengths w (ix2 k 0) = ∑ d : Fin 64, w (ix2 k d) * w (ix2 k d) := by
  unfold lengths
  pointwise

theorem host_w2 (k : Fin 1024) : (V m c main_v3 : Vec Ideal S1024x1 .f32) (ix2 k 0) = ∑ d : Fin 64, wOf m c k d * wOf m c k d := by
  unfold wOf
  rw [show (V m c main_v3 : Vec Ideal S1024x1 .f32) = lengths (m ((c : Thread nD τ).loc main_arg1)) by
    entry_read
    rfl]
  exact lengths_apply _ k

theorem read_z (j : Fin 4) (d : Fin 64) (p : Fin 1024) : (iblk m c 0 t : Vec Ideal S4x64x1024 .f32) (ix3 j d p) = zOf m c (at4 t j) d p := by
  rw [← host_z]
  unfold at4
  blk_ext! [iblk, idx t]

theorem read_wt (d : Fin 64) (k : Fin 1024) : (iblk m c 1 t : Vec Ideal S64x1024 .f32) (ix2 d k) = wOf m c k d := by
  rw [← host_wt]
  blk_ext! [iblk, idx t]

theorem read_w2x (k : Fin 1024) (d : Fin 64) : (iblk m c 2 t : Vec Ideal S1024x64 .f32) (ix2 k d) = wOf m c k d + wOf m c k d := by
  rw [← host_w2x]
  blk_ext! [iblk, idx t]

theorem read_w2 (k : Fin 1024) : (iblk m c 3 t : Vec Ideal S1024x1 .f32) (ix2 k 0) = ∑ d : Fin 64, wOf m c k d * wOf m c k d := by
  rw [← host_w2]
  blk_ext! [iblk, idx t]

theorem slab_apply (x : Vec Ideal S4x64x1024 .f32) (j : Fin 4) (d : Fin 64) (p : Fin 1024) : flat (slab x j) (ix2 d p) = x (ix3 j d p) := by
  unfold flat slab
  pointwise
  blk_ext

/-- The distances of one image of a point are those of the image of the sixteen. -/
theorem col_far (j : Fin 4) (p : Fin 1024) : col (far (iblk m c 0 t) (iblk m c 2 t) (iblk m c 3 t) j) p = away (zOf m c) (wOf m c) (at4 t j) p := by
  funext k
  unfold col far away
  rw [dist_apply, read_w2]
  simp only [slab_apply, read_z, read_w2x]

theorem moved_ix (j : Fin 4) (d : Fin 64) (p : Fin 1024) :
    movedOf (iblk m c 0 t) (iblk m c 1 t) (iblk m c 2 t) (iblk m c 3 t) (ix3 j d p) = placed (zOf m c) (wOf m c) (at4 t j) d p := by
  show moved (iblk m c 0 t) (iblk m c 1 t) (iblk m c 2 t) (iblk m c 3 t) j (ix3 0 d p) = _
  unfold moved placed near
  rw [out_apply, col_far, slab_apply, read_z, read_wt]

theorem codes_ix (j : Fin 4) (p : Fin 1024) :
    codesOf (iblk m c 0 t) (iblk m c 2 t) (iblk m c 3 t) (ix3 j 0 p) = BitVec.ofNat 32 (near (zOf m c) (wOf m c) (at4 t j) p).val := by
  show code (far (iblk m c 0 t) (iblk m c 2 t) (iblk m c 3 t) j) (ix3 0 0 p) = _
  rw [code_apply, col_far]
  rfl

theorem loss_far (j : Fin 4) : loss (far (iblk m c 0 t) (iblk m c 2 t) (iblk m c 3 t) j) (ix2 0 0) =
    ∑ p : Fin 1024, away (zOf m c) (wOf m c) (at4 t j) p (near (zOf m c) (wOf m c) (at4 t j) p) := by
  refine (loss_apply _).trans (Finset.sum_congr rfl fun p _ => ?_)
  rw [col_far]
  rfl

theorem count_far (j : Fin 4) (k : Fin 1024) : count (far (iblk m c 0 t) (iblk m c 2 t) (iblk m c 3 t) j) (ix2 k 0) =
    ∑ p : Fin 1024, if k = near (zOf m c) (wOf m c) (at4 t j) p then (1 : EReal) else 0 := by
  refine (count_apply _ k).trans (Finset.sum_congr rfl fun p _ => ?_)
  rw [col_far]
  rfl

theorem four (a b c d : FVec Ideal S1x1 .f32) (i : S1x1.Idx) : addf (addf (addf a b) c) d i = ((a i + b i) + c i) + d i := rfl
theorem four_col (a b c d : FVec Ideal S1024x1 .f32) (i : S1024x1.Idx) : addf (addf (addf a b) c) d i = ((a i + b i) + c i) + d i := rfl

theorem loss_ix : lossTerm m c t (ix2 0 0) = ∑ j : Fin 4, ∑ p : Fin 1024, away (zOf m c) (wOf m c) (at4 t j) p (near (zOf m c) (wOf m c) (at4 t j) p) := by
  unfold lossTerm lossOf
  rw [four, loss_far, loss_far, loss_far, loss_far, Fin.sum_univ_four (M := EReal)]

theorem count_ix (k : Fin 1024) :
    countTerm m c t (ix2 k 0) = ∑ j : Fin 4, ∑ p : Fin 1024, if k = near (zOf m c) (wOf m c) (at4 t j) p then (1 : EReal) else 0 := by
  unfold countTerm countOf
  rw [four_col, count_far, count_far, count_far, count_far, Fin.sum_univ_four (M := EReal)]

end Cert.KernelIdeal.Img

end
-- ==== Proof.Arrays.lean ====
module

public import proofs.«01_k».proof.Proof.Final

/-! The result arrays of the grid. -/

@[expose] public section

set_option maxRecDepth 16384

noncomputable section

namespace Cert.KernelIdeal.Img

open Cert.KernelIdeal Cert.KernelIdeal.Gen Cert.Vq Idealize.ShloMosaic Idealize.ShloMosaic.TcCoe Idealize.SL.Sem
open Idealize.ShloMosaic.Pipeline (Dat)

variable (m : (ℓ : Loc nD τ sig) → Buf (Elt Ideal) ℓ) (c : Dev nD)

def placedArr : FVec Ideal S16x64x1024 .f32 := fun y => placed (zOf m c) (wOf m c) (y 0) (y 1) (y 2)
def nearArr : IVec S16x1x1024 32 := fun y => BitVec.ofNat 32 (near (zOf m c) (wOf m c) (y 0) (y 2)).val

theorem arr4 : (dats m 0 c).arrAt 4 cfg0.N = placedArr m c := by
  refine (dats m 0 c).arrAt_eq_of_covers 4 _ (by decide +kernel) fun t hf y => ?_
  blk_simp
  rw [after0_4, moved_at]
  obtain ⟨j, d, p, rfl⟩ : ∃ (j : Fin 4) (d : Fin 64) (p : Fin 1024), y = ix3 j d p := ⟨y 0, y 1, y 2, by blk_ext⟩
  rw [show (win0_4.blk t).view.emb (ix3 j d p) = (ix3 (at4 t j) d p : S16x64x1024.Idx) by
    unfold at4
    blk_ext [idx t]]
  exact moved_ix m c t j d p

theorem arr5 : (dats m 0 c).arrAt 5 cfg0.N = nearArr m c := by
  refine (dats m 0 c).arrAt_eq_of_covers 5 _ (by decide +kernel) fun t hf y => ?_
  blk_simp
  rw [after0_5, codes_at]
  obtain ⟨j, p, rfl⟩ : ∃ (j : Fin 4) (p : Fin 1024), y = ix3 j 0 p := ⟨y 0, y 2, by blk_ext⟩
  rw [show (win0_5.blk t).view.emb (ix3 j 0 p) = (ix3 (at4 t j) 0 p : S16x1x1024.Idx) by
    unfold at4
    blk_ext [idx t]]
  exact codes_ix m c t j p

/-- Images by point and image within the point. -/
theorem sum_images (f : Fin 16 → EReal) : ∑ b, f b = (((∑ j, f (at4 t0_0 j)) + ∑ j, f (at4 t0_1 j)) + ∑ j, f (at4 t0_2 j)) + ∑ j, f (at4 t0_3 j) := by
  have h : ∑ b, f b = ∑ q : Fin 4, ∑ j : Fin 4, f ⟨4 * q.val + j.val, by omega⟩ := by
    rw [← Fintype.sum_prod_type']
    exact Fintype.sum_equiv (finProdFinEquiv (m := 4) (n := 4)).symm _ _ fun b => congrArg f (Fin.ext (by
      simp [finProdFinEquiv, Nat.div_add_mod]))
  rw [h, Fin.sum_univ_four]
  rfl

theorem tally_last (k : Fin 1024) : (outsAt0 m c t0_3.val t0_3.isLt).2.2.1 (ix2 k 0) = tally (zOf m c) (wOf m c) k := by
  have e0 : (outsAt0 m c 0 t0_0.isLt).2.2.1 = countTerm m c t0_0 := count_A m c t0_0 (by decide) (by decide) (by decide)
  have e1 : (outsAt0 m c 1 t0_1.isLt).2.2.1 = (addf (outsAt0 m c 0 t0_0.isLt).2.2.1 (countTerm m c t0_1) : FVec Ideal S1024x1 .f32) := count_B m c t0_1 (by decide) (by decide) (by decide)
  have e2 : (outsAt0 m c 2 t0_2.isLt).2.2.1 = (addf (outsAt0 m c 1 t0_1.isLt).2.2.1 (countTerm m c t0_2) : FVec Ideal S1024x1 .f32) := count_B m c t0_2 (by decide) (by decide) (by decide)
  have e3 : (outsAt0 m c 3 t0_3.isLt).2.2.1 = (addf (outsAt0 m c 2 t0_2.isLt).2.2.1 (countTerm m c t0_3) : FVec Ideal S1024x1 .f32) := count_C m c t0_3 (by decide) (by decide) (by decide)
  refine (congrFun e3 _).trans ?_
  rw [e2, e1, e0, four_col, count_ix, count_ix, count_ix, count_ix]
  unfold tally
  rw [sum_images fun b => ∑ p : Fin 1024, if k = near (zOf m c) (wOf m c) b p then (1 : EReal) else 0]

theorem loss_last : (outsAt0 m c t0_3.val t0_3.isLt).2.2.2.1 (ix2 0 0) = lossFrom (total (zOf m c) (wOf m c)) := by
  have e0 : (outsAt0 m c 0 t0_0.isLt).2.2.2.1 = lossTerm m c t0_0 := loss_A m c t0_0 (by decide) (by decide) (by decide)
  have e1 : (outsAt0 m c 1 t0_1.isLt).2.2.2.1 = (addf (outsAt0 m c 0 t0_0.isLt).2.2.2.1 (lossTerm m c t0_1) : FVec Ideal S1x1 .f32) := loss_B m c t0_1 (by decide) (by decide) (by decide)
  have e2 : (outsAt0 m c 2 t0_2.isLt).2.2.2.1 = (addf (outsAt0 m c 1 t0_1.isLt).2.2.2.1 (lossTerm m c t0_2) : FVec Ideal S1x1 .f32) := loss_B m c t0_2 (by decide) (by decide) (by decide)
  have e3 : (outsAt0 m c 3 t0_3.isLt).2.2.2.1 = (k0_pay7 (addf (outsAt0 m c 2 t0_2.isLt).2.2.2.1 (lossTerm m c t0_3)) : FVec Ideal S1x1 .f32) := loss_C m c t0_3 (by decide) (by decide) (by decide)
  have r (x : FVec Ideal S1x1 .f32) : (k0_pay7 x : FVec Ideal S1x1 .f32) (ix2 0 0) = lossFrom (x (ix2 0 0)) := by
    unfold lossFrom
    pointwise [k0_pay7]
  refine (congrFun e3 _).trans ?_
  rw [r, e2, e1, e0, four, loss_ix, loss_ix, loss_ix, loss_ix]
  unfold total
  rw [sum_images fun b => ∑ p : Fin 1024, away (zOf m c) (wOf m c) b p (near (zOf m c) (wOf m c) b p)]

theorem sum_rows (x : FVec Ideal S1x1024x1 .f32) :
    multiReduction .add [1, 2] S1 x 0x00000000#32 reduces_S1x1024x1_S1 (.inl rfl) rfl (ix1 0) = ∑ k : Fin 1024, x (ix3 0 k 0) := by
  pointwise
  simp

theorem rows (d : FVec Ideal S1024x1 .f32) (k : Fin 1024) : shapeCast S1x1024x1 d shapeCasts_S1024x1_S1x1024x1 (ix3 0 k 0) = d (ix2 k 0) := by
  pointwise

/-- A column summed to one number. -/
theorem column (d : FVec Ideal S1024x1 .f32) : broadcast S1x1 (extractAt ![0, 0, 0] (shapeCast S1x1x1 (multiReduction .add [1, 2] S1
    (shapeCast S1x1024x1 d shapeCasts_S1024x1_S1x1024x1) 0x00000000#32 reduces_S1x1024x1_S1 (.inl rfl) rfl) shapeCasts_S1_S1x1x1) inpos_S1x1x1_p0_0_0) (ix2 0 0)
    = ∑ k : Fin 1024, d (ix2 k 0) := by
  rw [single, sum_rows]
  exact Finset.sum_congr rfl fun k _ => rows d k

theorem share_apply (x : FVec Ideal S1024x1 .f32) (k : Fin 1024) : k0_pay8 x (ix2 k 0) = x (ix2 k 0) * Ideal.ofBits .f32 0x38800000#32 := by
  pointwise [k0_pay8]

/-- What the perplexity and the use sum over the codes. -/
def logs (s : FVec Ideal S1024x1 .f32) : FVec Ideal S1024x1 .f32 := mulf s (log (addf s (broadcast S1024x1 (Scalar.ofBits .f32 0x2EDBE6FF#32))))
def used (s : FVec Ideal S1024x1 .f32) : FVec Ideal S1024x1 .f32 :=
  select (cmpf .ogt s (broadcast S1024x1 (Scalar.ofBits .f32 0x00000000#32))) (broadcast S1024x1 (Scalar.ofBits .f32 0x3F800000#32))
    (broadcast S1024x1 (Scalar.ofBits .f32 0x00000000#32))

theorem logs_apply (s : FVec Ideal S1024x1 .f32) (k : Fin 1024) : logs s (ix2 k 0) = s (ix2 k 0) * Ideal.log (s (ix2 k 0) + Ideal.ofBits .f32 0x2EDBE6FF#32) := by
  pointwise [logs]

theorem used_apply (s : FVec Ideal S1024x1 .f32) (k : Fin 1024) : used s (ix2 k 0) = if 0 < s (ix2 k 0) then (1 : EReal) else 0 := by
  pointwise [used]

theorem perp_apply (x : FVec Ideal S1024x1 .f32) : (k0_pay9 x : FVec Ideal S1x1 .f32) (ix2 0 0) = perpFrom fun k => x (ix2 k 0) * Ideal.ofBits .f32 0x38800000#32 := by
  show Ideal.exp (Ideal.ofBits .f32 0x00000000#32 - broadcast S1x1 (extractAt ![0, 0, 0] (shapeCast S1x1x1 (multiReduction .add [1, 2] S1
    (shapeCast S1x1024x1 (logs (k0_pay8 x)) shapeCasts_S1024x1_S1x1024x1) 0x00000000#32 reduces_S1x1024x1_S1 (.inl rfl) rfl) shapeCasts_S1_S1x1x1)
    inpos_S1x1x1_p0_0_0) (ix2 0 0)) = _
  rw [column]
  simp only [logs_apply, share_apply]
  simp [perpFrom]

theorem util_apply (x : FVec Ideal S1024x1 .f32) : (k0_pay10 x : FVec Ideal S1x1 .f32) (ix2 0 0) = utilFrom fun k => x (ix2 k 0) * Ideal.ofBits .f32 0x38800000#32 := by
  show broadcast S1x1 (extractAt ![0, 0, 0] (shapeCast S1x1x1 (multiReduction .add [1, 2] S1
    (shapeCast S1x1024x1 (used (k0_pay8 x)) shapeCasts_S1024x1_S1x1024x1) 0x00000000#32 reduces_S1x1024x1_S1 (.inl rfl) rfl) shapeCasts_S1_S1x1x1)
    inpos_S1x1x1_p0_0_0) (ix2 0 0) * Ideal.ofBits .f32 0x3A800000#32 = _
  rw [column]
  simp only [used_apply, share_apply]
  rfl

theorem arr7 : (dats m 0 c).arrAt 7 cfg0.N = (fun _ => lossFrom (total (zOf m c) (wOf m c)) : FVec Ideal S1x1 .f32) := by
  refine (dats m 0 c).arrAt_eq_of_after_last 7 t0_3 (by decide +kernel) _ fun j => ?_
  blk_simp
  rw [after0_7]
  obtain rfl : j = ix2 0 0 := by blk_ext
  exact loss_last m c

theorem arr8 : (dats m 0 c).arrAt 8 cfg0.N = (fun _ => perpFrom (part (zOf m c) (wOf m c)) : FVec Ideal S1x1 .f32) := by
  refine (dats m 0 c).arrAt_eq_of_after_last 8 t0_3 (by decide +kernel) _ fun j => ?_
  blk_simp
  rw [after0_8]
  obtain rfl : j = ix2 0 0 := by blk_ext
  rw [perp_C m c t0_3 (by decide) (by decide) (by decide), perp_apply]
  simp only [tally_last]
  rfl

theorem arr9 : (dats m 0 c).arrAt 9 cfg0.N = (fun _ => utilFrom (part (zOf m c) (wOf m c)) : FVec Ideal S1x1 .f32) := by
  refine (dats m 0 c).arrAt_eq_of_after_last 9 t0_3 (by decide +kernel) _ fun j => ?_
  blk_simp
  rw [after0_9]
  obtain rfl : j = ix2 0 0 := by blk_ext
  rw [util_C m c t0_3 (by decide) (by decide) (by decide), util_apply]
  simp only [tally_last]
  rfl

end Cert.KernelIdeal.Img

end
-- ==== Proof.KernelRun.lean ====
module

public import proofs.«01_k».proof.Proof.Arrays

/-! What the kernel's run leaves in its five results. -/

@[expose] public section

set_option maxRecDepth 16384

noncomputable section

namespace Cert.KernelIdeal.Img

open Cert.KernelIdeal Cert.KernelIdeal.Gen Cert.Vq Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result arrays as the lines after the grid find them. -/
abbrev left (c : Dev nD) := Pipeline.withArrays spec0 c (V0 m c) fun w => (dats m 0 c).arrAt w cfg0.N

theorem left_at (c : Dev nD) (w : Fin 10) : left m c (Proc.devRef .tc (Pipeline.arrRef spec0 w)) = (dats m 0 c).arrAt w cfg0.N :=
  Pipeline.withArrays_arr spec0 (by decide) c (V0 m c) (fun w => (dats m 0 c).arrAt w cfg0.N) w

theorem tail_v7 (c : Dev nD) : Pipeline.afterTail₀ cfgs (dats m) 0 (V0 m) [hostOps1] c main_v7 =
    shapeCast S16x64x32x32 (placedArr m c) shapeCasts_S16x64x1024_S16x64x32x32 := by
  show StableHlo.after hostOps1 (left m c) (Proc.devRef .tc main_v7) = _
  simp only [StableHlo.after_cons, StableHlo.after_nil]
  after_results_simp
  rw [show left m c (Proc.devRef .tc main_v6_0) = _ from (left_at m c 4).trans (arr4 m c)]
  rfl

theorem tail_v8 (c : Dev nD) : Pipeline.afterTail₀ cfgs (dats m) 0 (V0 m) [hostOps1] c main_v8 =
    shapeCast S16384 (nearArr m c) shapeCasts_S16x1x1024_S16384 := by
  show StableHlo.after hostOps1 (left m c) (Proc.devRef .tc main_v8) = _
  simp only [StableHlo.after_cons, StableHlo.after_nil]
  after_results_simp
  rw [show left m c (Proc.devRef .tc main_v6_1) = _ from (left_at m c 5).trans (arr5 m c)]
  rfl

theorem tail_v9 (c : Dev nD) : Pipeline.afterTail₀ cfgs (dats m) 0 (V0 m) [hostOps1] c main_v9 =
    shapeCast S_ (fun _ => lossFrom (total (zOf m c) (wOf m c)) : FVec Ideal S1x1 .f32) shapeCasts_S1x1_S_ := by
  show StableHlo.after hostOps1 (left m c) (Proc.devRef .tc main_v9) = _
  simp only [StableHlo.after_cons, StableHlo.after_nil]
  after_results_simp
  rw [show left m c (Proc.devRef .tc main_v6_3) = _ from (left_at m c 7).trans (arr7 m c)]
  rfl

theorem tail_v10 (c : Dev nD) : Pipeline.afterTail₀ cfgs (dats m) 0 (V0 m) [hostOps1] c main_v10 =
    shapeCast S_ (fun _ => perpFrom (part (zOf m c) (wOf m c)) : FVec Ideal S1x1 .f32) shapeCasts_S1x1_S_ := by
  show StableHlo.after hostOps1 (left m c) (Proc.devRef .tc main_v10) = _
  simp only [StableHlo.after_cons, StableHlo.after_nil]
  after_results_simp
  rw [show left m c (Proc.devRef .tc main_v6_4) = _ from (left_at m c 8).trans (arr8 m c)]
  rfl

theorem tail_v11 (c : Dev nD) : Pipeline.afterTail₀ cfgs (dats m) 0 (V0 m) [hostOps1] c main_v11 =
    shapeCast S_ (fun _ => utilFrom (part (zOf m c) (wOf m c)) : FVec Ideal S1x1 .f32) shapeCasts_S1x1_S_ := by
  show StableHlo.after hostOps1 (left m c) (Proc.devRef .tc main_v11) = _
  simp only [StableHlo.after_cons, StableHlo.after_nil]
  after_results_simp
  rw [show left m c (Proc.devRef .tc main_v6_5) = _ from (left_at m c 9).trans (arr9 m c)]
  rfl

theorem run : θ_run (defs (F := Ideal)) (onTc (main (F := Ideal))) ⟨m, fun _ => 0, ρ⟩ fun r => ∀ c : Dev nD,
    r.2.mem ((c : Thread nD τ).loc main_v7) = shapeCast S16x64x32x32 (placedArr m c) shapeCasts_S16x64x1024_S16x64x32x32
    ∧ r.2.mem ((c : Thread nD τ).loc main_v8) = shapeCast S16384 (nearArr m c) shapeCasts_S16x1x1024_S16384
    ∧ r.2.mem ((c : Thread nD τ).loc main_v9) = shapeCast S_ (fun _ => lossFrom (total (zOf m c) (wOf m c)) : FVec Ideal S1x1 .f32) shapeCasts_S1x1_S_
    ∧ r.2.mem ((c : Thread nD τ).loc main_v10) = shapeCast S_ (fun _ => perpFrom (part (zOf m c) (wOf m c)) : FVec Ideal S1x1 .f32) shapeCasts_S1x1_S_
    ∧ r.2.mem ((c : Thread nD τ).loc main_v11) = shapeCast S_ (fun _ => utilFrom (part (zOf m c) (wOf m c)) : FVec Ideal S1x1 .f32) shapeCasts_S1x1_S_
    ∧ r.2.mem ((c : Thread nD τ).loc main_arg0) = m ((c : Thread nD τ).loc main_arg0)
    ∧ r.2.mem ((c : Thread nD τ).loc main_arg1) = m ((c : Thread nD τ).loc main_arg1) := by
  refine (θ_run defs _ _).mono (fun r hr c => ?_) (θ_run_and (Gen.run_main m ρ) (Gen.unchanged m ρ))
  have h := (hr.1 c).2
  exact ⟨(h _ (by decide)).trans (tail_v7 m c), (h _ (by decide)).trans (tail_v8 m c), (h _ (by decide)).trans (tail_v9 m c),
    (h _ (by decide)).trans (tail_v10 m c), (h _ (by decide)).trans (tail_v11 m c), hr.2 c⟩

end Cert.KernelIdeal.Img

end
-- ==== Proof.Equal.lean ====
module

public import proofs.«01_k».proof.Proof.RefLoss
public import proofs.«01_k».proof.Proof.Finite
public import proofs.«01_k».proof.Proof.KernelRun

/-! The kernel's five results are the reference's. -/

@[expose] public section

set_option maxRecDepth 16384

noncomputable section

namespace Cert.Vq

open Idealize.ShloMosaic Cert.KernelIdeal Cert.KernelIdeal.Gen
open Cert.KernelIdeal.Img (zOf wOf placedArr nearArr)
open Cert.ReferenceIdeal.Hand (line column row imagesOf codesOf chosenOf quant lossOf perpOf utilOf share)

/-- Every line and column are those of a pixel; every place among all the pixels is a pixel of an image. -/
theorem of_pixel (i l : Fin 32) : ∃ p : Fin 1024, i = line p ∧ l = column p :=
  ⟨⟨32 * i.val + l.val, by omega⟩, Fin.ext (show i.val = (32 * i.val + l.val) / 32 by omega), Fin.ext (show l.val = (32 * i.val + l.val) % 32 by omega)⟩

theorem of_row (r : Fin 16384) : ∃ (b : Fin 16) (p : Fin 1024), r = row b p :=
  ⟨⟨r.val / 1024, by omega⟩, ⟨r.val % 1024, by omega⟩, Fin.ext (show r.val = 1024 * (r.val / 1024) + r.val % 1024 by omega)⟩

theorem image_ix (j : S16x64x32x32.Idx) : ∃ (b : Fin 16) (d : Fin 64) (p : Fin 1024), j = ix4 b d (line p) (column p) := by
  obtain ⟨p, h2, h3⟩ := of_pixel (j 2) (j 3)
  exact ⟨j 0, j 1, p, (eq_ix4 j).trans ((ix4_inj _ _ _ _ _ _ _ _).mpr ⟨rfl, rfl, h2, h3⟩)⟩

theorem pixel_ix (j : S16384.Idx) : ∃ (b : Fin 16) (p : Fin 1024), j = ix1 (row b p) := by
  obtain ⟨b, p, h⟩ := of_row (j 0)
  exact ⟨b, p, (eq_ix1 j).trans (congrArg ix1 h)⟩

/-- The images laid out by pixels. -/
theorem split (x : FVec Ideal S16x64x32x32 .f32) (b : Fin 16) (d : Fin 64) (p : Fin 1024) :
    shapeCast S16x64x1024 x shapeCasts_S16x64x32x32_S16x64x1024 (ix3 b d p) = x (ix4 b d (line p) (column p)) := by
  unfold line column
  pointwise
  blk_ext

theorem join (x : FVec Ideal S16x64x1024 .f32) (b : Fin 16) (d : Fin 64) (p : Fin 1024) :
    shapeCast S16x64x32x32 x shapeCasts_S16x64x1024_S16x64x32x32 (ix4 b d (line p) (column p)) = x (ix3 b d p) := by
  unfold line column
  pointwise
  blk_ext

theorem flatten (x : IVec S16x1x1024 32) (b : Fin 16) (p : Fin 1024) :
    shapeCast S16384 x shapeCasts_S16x1x1024_S16384 (ix1 (row b p)) = x (ix3 b 0 p) := by
  unfold row
  pointwise
  blk_ext

theorem scalar (a : EReal) (y : FVec Ideal S_ .f32) (h : y (fun a => a.elim0) = a) :
    y = shapeCast S_ (fun _ => a : FVec Ideal S1x1 .f32) shapeCasts_S1x1_S_ := by
  funext j
  rw [show j = fun a => a.elim0 from funext fun a => a.elim0, h]
  rfl

variable (m : (ℓ : Loc nD τ sig) → Buf (Elt Ideal) ℓ) (c : Dev nD)

/-- The two arguments as the kernel's memory holds them. -/
abbrev zIn : FVec Ideal S16x64x32x32 .f32 := m ((c.tc : Thread nD τ).loc main_arg0)
abbrev wIn : FVec Ideal S1024x64 .f32 := m ((c.tc : Thread nD τ).loc main_arg1)

theorem zOf_eq : zOf m c = imagesOf (zIn m c) := funext fun b => funext fun d => funext fun p => split (zIn m c) b d p
theorem wOf_eq : wOf m c = codesOf (wIn m c) := rfl

theorem equal_placed : addf (zIn m c) (subf (quant (chosenOf (zIn m c) (wIn m c)) (wIn m c)) (zIn m c)) =
    shapeCast S16x64x32x32 (placedArr m c) shapeCasts_S16x64x1024_S16x64x32x32 := by
  funext j
  obtain ⟨b, d, p, rfl⟩ := image_ix j
  rw [join]
  show zIn m c (ix4 b d (line p) (column p)) + (quant _ _ (ix4 b d (line p) (column p)) - zIn m c (ix4 b d (line p) (column p))) = placed (zOf m c) (wOf m c) b d p
  rw [Cert.ReferenceIdeal.Hand.quant_apply, zOf_eq, wOf_eq]
  rfl

theorem equal_near : chosenOf (zIn m c) (wIn m c) = shapeCast S16384 (nearArr m c) shapeCasts_S16x1x1024_S16384 := by
  funext j
  obtain ⟨b, p, rfl⟩ := pixel_ix j
  rw [flatten, Cert.ReferenceIdeal.Hand.chosenOf_apply]
  show _ = BitVec.ofNat 32 (near (zOf m c) (wOf m c) b p).val
  rw [zOf_eq, wOf_eq]

theorem equal_loss (hz : ∀ i, ∃ r : ℝ, zIn m c i = (r : EReal)) (hw : ∀ i, ∃ r : ℝ, wIn m c i = (r : EReal)) :
    lossOf (quant (chosenOf (zIn m c) (wIn m c)) (wIn m c)) (zIn m c) =
      shapeCast S_ (fun _ => lossFrom (total (zOf m c) (wOf m c)) : FVec Ideal S1x1 .f32) shapeCasts_S1x1_S_ := by
  rw [zOf_eq, wOf_eq]
  exact scalar _ _ (Cert.ReferenceIdeal.Hand.loss_apply _ _ hz hw)

theorem equal_perp : perpOf (share (F := Ideal) (chosenOf (zIn m c) (wIn m c))) =
    shapeCast S_ (fun _ => perpFrom (part (zOf m c) (wOf m c)) : FVec Ideal S1x1 .f32) shapeCasts_S1x1_S_ := by
  rw [zOf_eq, wOf_eq]
  exact scalar _ _ (Cert.ReferenceIdeal.Hand.perp_apply _ _)

theorem equal_util : utilOf (share (F := Ideal) (chosenOf (zIn m c) (wIn m c))) =
    shapeCast S_ (fun _ => utilFrom (part (zOf m c) (wOf m c)) : FVec Ideal S1x1 .f32) shapeCasts_S1x1_S_ := by
  rw [zOf_eq, wOf_eq]
  exact scalar _ _ (Cert.ReferenceIdeal.Hand.util_apply _ _)

end Cert.Vq

end
-- ==== Proof.RefFrame.lean ====
module

public import proofs.«01_k».proof.Proof.RefRun
public import Idealize.ShloMosaic.Lib.Claim
public import Idealize.ShloMosaic.Lib.Quiescent

/-! The reference runs, leaves its arguments as they were and every counter at zero. -/

@[expose] public section

noncomputable section

namespace Cert.ReferenceIdeal.Hand

open Cert.ReferenceIdeal Cert.ReferenceIdeal.Gen Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2.2.2.2, sem_eq_zero_of_no_sems (by decide) r.2⟩) (run m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equal
public import proofs.«01_k».proof.Proof.RefFrame
public import Idealize.ShloMosaic.Adequacy
public import Idealize.ShloMosaic.Init

@[expose] public section

noncomputable section

namespace Cert.Proof

open Idealize.ShloMosaic Idealize.SL.Sem Cert.Kernel

/-- From memories that agree on finite arguments both programs end with the same five results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨_, _, _, _, _, (θ_run _ _ _).mono (fun r h c => ⟨(h c).1, (h c).2.2.1, (h c).2.2.2.1, (h c).2.2.2.2.1, (h c).2.1, (h c).2.2.2.2.2⟩)
    (Cert.KernelIdeal.Img.run m g), (θ_run _ _ _).mono (fun r h c => ?_) (Cert.ReferenceIdeal.Hand.run m' g')⟩
  obtain ⟨h0, h1, h2, h3, h4, h5⟩ := h c
  obtain ⟨hz, hw⟩ := Cert.Vq.finite_all (Cert.Vq.zIn m c) (Cert.Vq.wIn m c) (hpre c)
  have ez : Cert.ReferenceIdeal.Hand.argZ m' c = Cert.Vq.zIn m c := (hargs c).1
  have ew : Cert.ReferenceIdeal.Hand.argW m' c = Cert.Vq.wIn m c := (hargs c).2
  have ec : Cert.ReferenceIdeal.Hand.code m' c = Cert.ReferenceIdeal.Hand.chosenOf (Cert.Vq.zIn m c) (Cert.Vq.wIn m c) := by
    show Cert.ReferenceIdeal.Hand.chosenOf (Cert.ReferenceIdeal.Hand.argZ m' c) (Cert.ReferenceIdeal.Hand.argW m' c) = _
    rw [ez, ew]
  rw [ec, ez, ew] at h0
  rw [ec, ez, ew] at h1
  rw [ec] at h2 h3 h4
  exact ⟨h0.trans (Cert.Vq.equal_placed m c), h1.trans (Cert.Vq.equal_loss m c hz hw), h2.trans (Cert.Vq.equal_perp m c),
    h3.trans (Cert.Vq.equal_util m c), h4.trans (Cert.Vq.equal_near m c), h5⟩

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Hand.frame m ρ, fun m ρ _ => Cert.ReferenceIdeal.Hand.frame m ρ, trivial, algebraic⟩

end Cert.Proof

end
